-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_hw" .f32 0x3BA72F05#32 ((196⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v32)) (v6 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v32) = v5 c
          ∧ r.2.mem ((c.tc : Thread Cert.KernelIdeal.nD Cert.KernelIdeal.τ).loc Cert.KernelIdeal.main_v5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v4) = v5 c
          ∧ r.2.mem ((c.tc : Thread Cert.ReferenceIdeal.nD Cert.ReferenceIdeal.τ).loc Cert.ReferenceIdeal.main_v7) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x384x14x14 : Shape := ⟨4, ![1024, 384, 14, 14]⟩
abbrev S384x16 : Shape := ⟨2, ![384, 16]⟩
abbrev S_ : Shape := ⟨0, ![]⟩
abbrev S14x14x1024x384 : Shape := ⟨4, ![14, 14, 1024, 384]⟩
abbrev S1024x384 : Shape := ⟨2, ![1024, 384]⟩
abbrev S14x14x64x384 : Shape := ⟨4, ![14, 14, 64, 384]⟩
abbrev S64x384 : Shape := ⟨2, ![64, 384]⟩
abbrev S1x1x64x384 : Shape := ⟨4, ![1, 1, 64, 384]⟩
abbrev S1024x16 : Shape := ⟨2, ![1024, 16]⟩
abbrev S1024 : Shape := ⟨1, ![1024]⟩
abbrev S1024x1 : Shape := ⟨2, ![1024, 1]⟩
abbrev S16x1024 : Shape := ⟨2, ![16, 1024]⟩
abbrev S1x1 : Shape := ⟨2, ![1, 1]⟩
abbrev S1x16x1024 : Shape := ⟨3, ![1, 16, 1024]⟩
abbrev S1 : Shape := ⟨1, ![1]⟩
abbrev S1x1x1 : Shape := ⟨3, ![1, 1, 1]⟩
abbrev S1x1024 : Shape := ⟨2, ![1, 1024]⟩
abbrev S1x1x1024 : Shape := ⟨3, ![1, 1, 1024]⟩
abbrev S16 : Shape := ⟨1, ![16]⟩
abbrev S16x1 : Shape := ⟨2, ![16, 1]⟩
abbrev S16x16 : Shape := ⟨2, ![16, 16]⟩
abbrev S1x16x16 : Shape := ⟨3, ![1, 16, 16]⟩
abbrev S1x16x1 : Shape := ⟨3, ![1, 16, 1]⟩
abbrev S16x96x1024 : Shape := ⟨3, ![16, 96, 1024]⟩
abbrev S1x256 : Shape := ⟨2, ![1, 256]⟩
abbrev S16x96x256 : Shape := ⟨3, ![16, 96, 256]⟩
abbrev S1024x256 : Shape := ⟨2, ![1024, 256]⟩
abbrev S256 : Shape := ⟨1, ![256]⟩
abbrev S1x1x256 : Shape := ⟨3, ![1, 1, 256]⟩
abbrev S1024x16x96 : Shape := ⟨3, ![1024, 16, 96]⟩

abbrev nBuf : Space → Nat
  | .hbm => 56
  | .vmem => 17
  | .smem => 0
  | _ => 0

abbrev bufTy : (tb : Table) → Fin (tcTables nBuf tb) → BufTy
  | .hbm, ⟨0, _⟩ => ⟨S1024x384x14x14, .f32⟩
  | .hbm, ⟨1, _⟩ => ⟨S384x16, .f32⟩
  | .hbm, ⟨2, _⟩ => ⟨S_, .i32⟩
  | .hbm, ⟨3, _⟩ => ⟨S14x14x1024x384, .f32⟩
  | .hbm, ⟨4, _⟩ => ⟨S1024x384, .f32⟩
  | .hbm, ⟨5, _⟩ => ⟨S1024x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024x16, .f32⟩
  | .hbm, ⟨13, _⟩ => ⟨S1024x16, .f32⟩
  | .hbm, ⟨14, _⟩ => ⟨S_, .f32⟩
  | .hbm, ⟨15, _⟩ => ⟨S1024x16, .f32⟩
  | .hbm, ⟨16, _⟩ => ⟨S1024x16, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024x1, .f32⟩
  | .hbm, ⟨23, _⟩ => ⟨S1024x16, .f32⟩
  | .hbm, ⟨24, _⟩ => ⟨S1024x16, .f32⟩
  | .hbm, ⟨25, _⟩ => ⟨S1024x16, .f32⟩
  | .hbm, ⟨26, _⟩ => ⟨S_, .f32⟩
  | .hbm, ⟨27, _⟩ => ⟨S1024, .f32⟩
  | .hbm, ⟨28, _⟩ => ⟨S1024x1, .f32⟩
  | .hbm, ⟨29, _⟩ => ⟨S1024x16, .f32⟩
  | .hbm, ⟨30, _⟩ => ⟨S1024x16, .f32⟩
  | .hbm, ⟨31, _⟩ => ⟨S1024x16, .i32⟩
  | .hbm, ⟨32, _⟩ => ⟨S_, .f32⟩
  | .hbm, ⟨33, _⟩ => ⟨S_, .i32⟩
  | .hbm, ⟨34, _⟩ => ⟨S1024, .f32⟩
  | .hbm, ⟨35, _⟩ => ⟨S1024, .i32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S16x1024, .f32⟩
  | .hbm, ⟨40, _⟩ => ⟨S1x1, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S1x1024, .f32⟩
  | .hbm, ⟨45, _⟩ => ⟨S1x1024, .i32⟩
  | .hbm, ⟨46, _⟩ => ⟨S1024x1, .i32⟩
  | .hbm, ⟨47, _⟩ => ⟨S16x96x1024, .f32⟩
  | .hbm, ⟨48, _⟩ => ⟨S1024x16x96, .f32⟩
  | .hbm, ⟨49, _⟩ => ⟨S_, .f32⟩
  | .hbm, ⟨50, _⟩ => ⟨S1024x16x96, .f32⟩
  | .hbm, ⟨51, _⟩ => ⟨S1024x16x96, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S14x14x64x384, .f32⟩
  | .local _ .vmem, ⟨1, _⟩ => ⟨S14x14x64x384, .f32⟩
  | .local _ .vmem, ⟨2, _⟩ => ⟨S64x384, .f32⟩
  | .local _ .vmem, ⟨3, _⟩ => ⟨S64x384, .f32⟩
  | .local _ .vmem, ⟨4, _⟩ => ⟨S16x1024, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1024x1, .f32⟩
  | .local _ .vmem, ⟨10, _⟩ => ⟨S1024x1, .i32⟩
  | .local _ .vmem, ⟨11, _⟩ => ⟨S1x256, .f32⟩
  | .local _ .vmem, ⟨12, _⟩ => ⟨S1x256, .f32⟩
  | .local _ .vmem, ⟨13, _⟩ => ⟨S1x256, .i32⟩
  | .local _ .vmem, ⟨14, _⟩ => ⟨S1x256, .i32⟩
  | .local _ .vmem, ⟨15, _⟩ => ⟨S16x96x256, .f32⟩
  | .local _ .vmem, ⟨16, _⟩ => ⟨S16x96x256, .f32⟩
  | _, _ => ⟨S1024x384x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_c : Ref sig .tc := ⟨.hbm, 33, rfl⟩
abbrev main_call1_v1_0 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14x14x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 1 → Memref sig .tc .vmem S1024x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x96x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "inv_hw" => some ((196⁻¹ : ℝ) : EReal)
  | _ => none
-- ==== ReferenceIdeal.lean ====
abbrev S1024x384x14x14 : Shape := ⟨4, ![1024, 384, 14, 14]⟩
abbrev S384x16 : Shape := ⟨2, ![384, 16]⟩
abbrev S_ : Shape := ⟨0, ![]⟩
abbrev S1024x384 : Shape := ⟨2, ![1024, 384]⟩
abbrev S1024x16 : Shape := ⟨2, ![1024, 16]⟩
abbrev S1x1 : Shape := ⟨2, ![1, 1]⟩
abbrev S1024 : Shape := ⟨1, ![1024]⟩
abbrev S16 : Shape := ⟨1, ![16]⟩
abbrev S1x16 : Shape := ⟨2, ![1, 16]⟩
abbrev S16x1024 : Shape := ⟨2, ![16, 1024]⟩
abbrev S16x16 : Shape := ⟨2, ![16, 16]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x16x1 : Shape := ⟨3, ![1024, 16, 1]⟩
abbrev S1x1x96 : Shape := ⟨3, ![1, 1, 96]⟩
abbrev S1024x16x96 : Shape := ⟨3, ![1024, 16, 96]⟩

abbrev nBuf : Space → Nat
  | .hbm => 224
  | .vmem => 0
  | .smem => 0
  | _ => 0

abbrev hbmTy0_0 (i : Nat) : BufTy := match i % 128 with
  | 0 => ⟨S1024x384x14x14, .f32⟩
  | 1 => ⟨S384x16, .f32⟩
  | 2 => ⟨S_, .i32⟩
  | 3 => ⟨S_, .f32⟩
  | 4 => ⟨S1024x384, .f32⟩
  | 5 => ⟨S_, .f32⟩
  | 6 => ⟨S1024x384, .f32⟩
  | 7 => ⟨S1024x384, .f32⟩
  | 8 => ⟨S1024x16, .f32⟩
  | 9 => ⟨S_, .i32⟩
  | 10 => ⟨S_, .f32⟩
  | 11 => ⟨S_, .f32⟩
  | 12 => ⟨S1x1, .f32⟩
  | 13 => ⟨S_, .f32⟩
  | 14 => ⟨S1x1, .f32⟩
  | 15 => ⟨S1x1, .f32⟩
  | 16 => ⟨S1024x16, .f32⟩
  | 17 => ⟨S1024x16, .f32⟩
  | 18 => ⟨S1024x16, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .i1⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S1024x16, .f32⟩
  | 35 => ⟨S1024x16, .f32⟩
  | 36 => ⟨S_, .f32⟩
  | 37 => ⟨S1024x16, .f32⟩
  | 38 => ⟨S1024x16, .f32⟩
  | 39 => ⟨S_, .f32⟩
  | 40 => ⟨S1024x16, .f32⟩
  | 41 => ⟨S1024x16, .f32⟩
  | 42 => ⟨S1024x16, .f32⟩
  | 43 => ⟨S_, .f32⟩
  | 44 => ⟨S1024, .f32⟩
  | 45 => ⟨S1024, .f32⟩
  | 46 => ⟨S1024, .f32⟩
  | 47 => ⟨S_, .f32⟩
  | 48 => ⟨S_, .f32⟩
  | 49 => ⟨S_, .f32⟩
  | 50 => ⟨S_, .f32⟩
  | 51 => ⟨S1024x16, .f32⟩
  | 52 => ⟨S_, .f32⟩
  | 53 => ⟨S16, .f32⟩
  | 54 => ⟨S1x16, .f32⟩
  | 55 => ⟨S1x16, .f32⟩
  | 56 => ⟨S_, .f32⟩
  | 57 => ⟨S1x16, .f32⟩
  | 58 => ⟨S1x16, .f32⟩
  | 59 => ⟨S1024x16, .f32⟩
  | 60 => ⟨S1024x16, .f32⟩
  | 61 => ⟨S16x1024, .f32⟩
  | 62 => ⟨S16x16, .f32⟩
  | 63 => ⟨S16x16, .i32⟩
  | 64 => ⟨S16x16, .i32⟩
  | 65 => ⟨S_, .i32⟩
  | 66 => ⟨S16x16, .i32⟩
  | 67 => ⟨S16x16, .i32⟩
  | 68 => ⟨S16x16, .i1⟩
  | 69 => ⟨S16x16, .f32⟩
  | 70 => ⟨S_, .f32⟩
  | 71 => ⟨S16x16, .f32⟩
  | 72 => ⟨S16x16, .f32⟩
  | 73 => ⟨S16x16, .f32⟩
  | 74 => ⟨S16x16, .f32⟩
  | 75 => ⟨S_, .f32⟩
  | 76 => ⟨S_, .f32⟩
  | 77 => ⟨S_, .f32⟩
  | 78 => ⟨S_, .f32⟩
  | 79 => ⟨S_, .f32⟩
  | 80 => ⟨S1024, .f32⟩
  | 81 => ⟨S_, .f32⟩
  | 82 => ⟨S1024, .f32⟩
  | 83 => ⟨S1024, .f32⟩
  | 84 => ⟨S1024x1, .f32⟩
  | 85 => ⟨S1024x16, .f32⟩
  | 86 => ⟨S1024x16, .f32⟩
  | 87 => ⟨S1024x16, .f32⟩
  | 88 => ⟨S_, .f32⟩
  | 89 => ⟨S1024, .f32⟩
  | 90 => ⟨S1024x1, .f32⟩
  | 91 => ⟨S1024x16, .f32⟩
  | 92 => ⟨S1024x16, .f32⟩
  | 93 => ⟨S1024x16, .i32⟩
  | 94 => ⟨S_, .f32⟩
  | 95 => ⟨S_, .i32⟩
  | 96 => ⟨S1024, .f32⟩
  | 97 => ⟨S1024, .i32⟩
  | 98 => ⟨S1024x1, .i32⟩
  | 99 => ⟨S_, .i32⟩
  | 100 => ⟨S1024x1, .i32⟩
  | 101 => ⟨S1024x1, .i1⟩
  | 102 => ⟨S_, .i32⟩
  | 103 => ⟨S1024x1, .i32⟩
  | 104 => ⟨S1024x1, .i32⟩
  | 105 => ⟨S1024x1, .i32⟩
  | 106 => ⟨S1024x1x1, .i32⟩
  | 107 => ⟨S1, .i32⟩
  | 108 => ⟨S_, .i32⟩
  | 109 => ⟨S1024x1x1, .i32⟩
  | 110 => ⟨S1024x1x1, .i1⟩
  | 111 => ⟨S1x1x1, .i32⟩
  | 112 => ⟨S1024x1x1, .i32⟩
  | 113 => ⟨S1024x1x1, .i1⟩
  | 114 => ⟨S1024x1x1, .i1⟩
  | 115 => ⟨S_, .i1⟩
  | 116 => ⟨S1024x1, .i1⟩
  | 117 => ⟨S1024x1, .f32⟩
  | 118 => ⟨S_, .f32⟩
  | 119 => ⟨S1024x1, .f32⟩
  | 120 => ⟨S1024x1, .f32⟩
  | 121 => ⟨S1024, .f32⟩
  | 122 => ⟨S1024x1, .i32⟩
  | 123 => ⟨S1x16, .i32⟩
  | 124 => ⟨S1024x16, .i32⟩
  | 125 => ⟨S1024x16, .i32⟩
  | 126 => ⟨S1024x16, .i1⟩
  | 127 => ⟨S1024x16, .f32⟩
  | _ => ⟨S1024x384x14x14, .f32⟩

abbrev hbmTy0_1 (i : Nat) : BufTy := match i % 128 with
  | 0 => ⟨S_, .f32⟩
  | 1 => ⟨S16, .f32⟩
  | 2 => ⟨S_, .f32⟩
  | 3 => ⟨S16, .f32⟩
  | 4 => ⟨S16, .f32⟩
  | 5 => ⟨S_, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S_, .f32⟩
  | 13 => ⟨S_, .f32⟩
  | 14 => ⟨S_, .f32⟩
  | 15 => ⟨S1024, .f32⟩
  | 16 => ⟨S1024, .i32⟩
  | 17 => ⟨S1024, .f32⟩
  | 18 => ⟨S1024, .i32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024x16, .f32⟩
  | 28 => ⟨S_, .f32⟩
  | 29 => ⟨S_, .f32⟩
  | 30 => ⟨S1024x16, .f32⟩
  | 31 => ⟨S_, .f32⟩
  | 32 => ⟨S1024x16, .f32⟩
  | 33 => ⟨S1024x16, .f32⟩
  | 34 => ⟨S_, .f32⟩
  | 35 => ⟨S1024x16, .f32⟩
  | 36 => ⟨S1024x16, .i1⟩
  | 37 => ⟨S1024x16, .f32⟩
  | 38 => ⟨S1024x16, .f32⟩
  | 39 => ⟨S_, .i32⟩
  | 40 => ⟨S1024, .i32⟩
  | 41 => ⟨S1024, .i32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S1024, .i32⟩
  | 51 => ⟨S_, .i32⟩
  | 52 => ⟨S1024, .i32⟩
  | 53 => ⟨S1024, .i1⟩
  | 54 => ⟨S_, .i32⟩
  | 55 => ⟨S1024, .i32⟩
  | 56 => ⟨S1024, .i32⟩
  | 57 => ⟨S1024, .i32⟩
  | 58 => ⟨S1024x1, .i32⟩
  | 59 => ⟨S1024x16, .f32⟩
  | 60 => ⟨S_, .f32⟩
  | 61 => ⟨S1024, .f32⟩
  | 62 => ⟨S1024, .f32⟩
  | 63 => ⟨S_, .i32⟩
  | 64 => ⟨S_, .i32⟩
  | 65 => ⟨S_, .f32⟩
  | 66 => ⟨S1024x16, .f32⟩
  | 67 => ⟨S1024x16, .f32⟩
  | 68 => ⟨S_, .f32⟩
  | 69 => ⟨S1024x16, .f32⟩
  | 70 => ⟨S1024x16, .f32⟩
  | 71 => ⟨S1024x16, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S1024x1, .i32⟩
  | 80 => ⟨S1024x16, .i32⟩
  | 81 => ⟨S1024x16x1, .i32⟩
  | 82 => ⟨S1x1x96, .i32⟩
  | 83 => ⟨S1024x16x96, .i32⟩
  | 84 => ⟨S1024x16x96, .i32⟩
  | 85 => ⟨S1024x16x96, .i1⟩
  | 86 => ⟨S1024x16x96, .f32⟩
  | 87 => ⟨S1024x1x1, .f32⟩
  | 88 => ⟨S1024x16x1, .f32⟩
  | 89 => ⟨S1024x16x1, .f32⟩
  | 90 => ⟨S1024x16x1, .f32⟩
  | 91 => ⟨S1024x16x96, .f32⟩
  | 92 => ⟨S1024x16x96, .f32⟩
  | 93 => ⟨S_, .f32⟩
  | 94 => ⟨S1024x16x96, .f32⟩
  | 95 => ⟨S1024x16x96, .i1⟩
  | _ => ⟨S1024x384x14x14, .f32⟩

abbrev hbmTy (i : Nat) : BufTy := match i / 128 with
  | 0 => hbmTy0_0 i
  | 1 => hbmTy0_1 i
  | _ => ⟨S1024x384x14x14, .f32⟩

abbrev bufTy : (tb : Table) → Fin (tcTables nBuf tb) → BufTy
  | .hbm, ⟨i, _⟩ => hbmTy i
  | _, _ => ⟨S1024x384x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_cst_3 : Ref sig .tc := ⟨.hbm, 25, rfl⟩
abbrev main_call0_call0_v11 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_v0 : Ref sig .tc := ⟨.hbm, 29, rfl⟩
abbrev main_v4 : Ref sig .tc := ⟨.hbm, 30, rfl⟩
abbrev main_cst_1 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v5 : Ref sig .tc := ⟨.hbm, 38, rfl⟩
abbrev main_cst_3 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_cst_4 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_5 : Ref sig .tc := ⟨.hbm, 47, rfl⟩
abbrev main_v12 : Ref sig .tc := ⟨.hbm, 48, rfl⟩
abbrev main_cst_6 : Ref sig .tc := ⟨.hbm, 49, rfl⟩
abbrev main_v13 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_call2_v2 : Ref sig .tc := ⟨.hbm, 54, rfl⟩
abbrev main_v14 : Ref sig .tc := ⟨.hbm, 55, rfl⟩
abbrev main_cst_7 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_c_8 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_9 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_10 : Ref sig .tc := ⟨.hbm, 75, rfl⟩
abbrev main_v31 : Ref sig .tc := ⟨.hbm, 76, rfl⟩
abbrev main_cst_11 : Ref sig .tc := ⟨.hbm, 77, rfl⟩
abbrev main_v32 : Ref sig .tc := ⟨.hbm, 78, rfl⟩
abbrev main_cst_12 : Ref sig .tc := ⟨.hbm, 79, rfl⟩
abbrev main_v33 : Ref sig .tc := ⟨.hbm, 80, rfl⟩
abbrev main_cst_13 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_14 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_call3_v0 : Ref sig .tc := ⟨.hbm, 93, rfl⟩
abbrev main_call3_cst : Ref sig .tc := ⟨.hbm, 94, rfl⟩
abbrev main_call3_c : Ref sig .tc := ⟨.hbm, 95, rfl⟩
abbrev main_call3_v1_0 : Ref sig .tc := ⟨.hbm, 96, rfl⟩
abbrev main_v44 : Ref sig .tc := ⟨.hbm, 97, rfl⟩
abbrev main_v45 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_cst : Ref sig .tc := ⟨.hbm, 118, rfl⟩
abbrev main_call4_v14 : Ref sig .tc := ⟨.hbm, 119, rfl⟩
abbrev main_v46 : Ref sig .tc := ⟨.hbm, 120, rfl⟩
abbrev main_v47 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v48 : Ref sig .tc := ⟨.hbm, 127, rfl⟩
abbrev main_cst_15 : Ref sig .tc := ⟨.hbm, 128, rfl⟩
abbrev main_v49 : Ref sig .tc := ⟨.hbm, 129, rfl⟩
abbrev main_cst_16 : Ref sig .tc := ⟨.hbm, 130, rfl⟩
abbrev main_v50 : Ref sig .tc := ⟨.hbm, 131, rfl⟩
abbrev main_v51 : Ref sig .tc := ⟨.hbm, 132, rfl⟩
abbrev main_cst_17 : Ref sig .tc := ⟨.hbm, 133, rfl⟩
abbrev main_v52 : Ref sig .tc := ⟨.hbm, 134, rfl⟩
abbrev main_cst_18 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_cst_19 : Ref sig .tc := ⟨.hbm, 139, rfl⟩
abbrev main_v56 : Ref sig .tc := ⟨.hbm, 140, rfl⟩
abbrev main_cst_20 : Ref sig .tc := ⟨.hbm, 141, rfl⟩
abbrev main_v57 : Ref sig .tc := ⟨.hbm, 142, rfl⟩
abbrev main_v58 : Ref sig .tc := ⟨.hbm, 143, rfl⟩
abbrev main_call6_v0 : Ref sig .tc := ⟨.hbm, 144, rfl⟩
abbrev main_call6_v1_0 : Ref sig .tc := ⟨.hbm, 145, rfl⟩
abbrev main_v59 : Ref sig .tc := ⟨.hbm, 146, rfl⟩
abbrev main_c_21 : Ref sig .tc := ⟨.hbm, 147, rfl⟩
abbrev main_v60 : Ref sig .tc := ⟨.hbm, 148, rfl⟩
abbrev main_v61 : Ref sig .tc := ⟨.hbm, 149, rfl⟩
abbrev main_c_22 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_call7_call0_cst : Ref sig .tc := ⟨.hbm, 156, rfl⟩
abbrev main_call7_call0_v0 : Ref sig .tc := ⟨.hbm, 157, rfl⟩
abbrev main_v67 : Ref sig .tc := ⟨.hbm, 158, rfl⟩
abbrev main_cst_23 : Ref sig .tc := ⟨.hbm, 159, rfl⟩
abbrev main_v68 : Ref sig .tc := ⟨.hbm, 160, rfl⟩
abbrev main_v69 : Ref sig .tc := ⟨.hbm, 161, rfl⟩
abbrev main_cst_24 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_c_25 : Ref sig .tc := ⟨.hbm, 167, rfl⟩
abbrev main_v74 : Ref sig .tc := ⟨.hbm, 168, rfl⟩
abbrev main_v75 : Ref sig .tc := ⟨.hbm, 169, rfl⟩
abbrev main_c_26 : Ref sig .tc := ⟨.hbm, 170, rfl⟩
abbrev main_v76 : Ref sig .tc := ⟨.hbm, 171, rfl⟩
abbrev main_v77 : Ref sig .tc := ⟨.hbm, 172, rfl⟩
abbrev main_c_27 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_c_28 : Ref sig .tc := ⟨.hbm, 179, rfl⟩
abbrev main_v83 : Ref sig .tc := ⟨.hbm, 180, rfl⟩
abbrev main_v84 : Ref sig .tc := ⟨.hbm, 181, rfl⟩
abbrev main_c_29 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_cst_30 : Ref sig .tc := ⟨.hbm, 188, rfl⟩
abbrev main_v90 : Ref sig .tc := ⟨.hbm, 189, rfl⟩
abbrev main_v91 : Ref sig .tc := ⟨.hbm, 190, rfl⟩
abbrev main_c_31 : Ref sig .tc := ⟨.hbm, 191, rfl⟩
abbrev main_c_32 : Ref sig .tc := ⟨.hbm, 192, rfl⟩
abbrev main_call8_v0 : Ref sig .tc := ⟨.hbm, 193, rfl⟩
abbrev main_call8_v1 : Ref sig .tc := ⟨.hbm, 194, rfl⟩
abbrev main_call8_v2 : Ref sig .tc := ⟨.hbm, 195, rfl⟩
abbrev main_call8_v3 : Ref sig .tc := ⟨.hbm, 196, rfl⟩
abbrev main_call8_v4 : Ref sig .tc := ⟨.hbm, 197, rfl⟩
abbrev main_v92 : Ref sig .tc := ⟨.hbm, 198, rfl⟩
abbrev main_v93 : Ref sig .tc := ⟨.hbm, 199, rfl⟩
abbrev main_c_33 : Ref sig .tc := ⟨.hbm, 200, rfl⟩
abbrev main_v94 : Ref sig .tc := ⟨.hbm, 201, rfl⟩
abbrev main_v95 : Ref sig .tc := ⟨.hbm, 202, rfl⟩
abbrev main_c_34 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_call9_v0 : Ref sig .tc := ⟨.hbm, 209, rfl⟩
abbrev main_call9_v1 : Ref sig .tc := ⟨.hbm, 210, rfl⟩
abbrev main_call9_v2 : Ref sig .tc := ⟨.hbm, 211, rfl⟩
abbrev main_call9_v3 : Ref sig .tc := ⟨.hbm, 212, rfl⟩
abbrev main_call9_v4 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_cst_35 : Ref sig .tc := ⟨.hbm, 221, rfl⟩
abbrev main_v108 : Ref sig .tc := ⟨.hbm, 222, rfl⟩
abbrev main_v109 : Ref sig .tc := ⟨.hbm, 223, rfl⟩

abbrev nD : Nat := 1
abbrev τ : Topo := Topo.v7x

variable {F : FTy → Type} [FloatOps F]
-- ==== Proof.RefRun.lean ====
/-
  The run of the reference: a straight line of host operations.

  `ops` is the line, read off the printed `main`; `final V` is what the buffers hold after it, from contents `V`;
  `run` says that every execution ends with each buffer at `final` of its launch contents.
-/
module

public import proofs.«01_k».proof.ReferenceIdeal
public import proofs.«01_k».proof.Proof.Gen.ReferenceIdeal
public import Idealize.ShloMosaic.PureOps.Ideal
public import Idealize.ShloMosaic.Lib.Claim
public import Idealize.ShloMosaic.Lib.StableHlo.RunHlo
public import Idealize.ShloMosaic.Lib.StableHlo.RunRead

@[expose] public section

noncomputable section

namespace Cert.RefRun

open Idealize.ShloMosaic Idealize.SL.Sem Idealize.ShloMosaic.StableHlo Cert.ReferenceIdeal Cert.ReferenceIdeal.Gen

/-- The printed `main`, on every device, is one straight line of operations. -/
def line : { ops : List (HloOp τ sig (Elt Ideal)) // ∀ d, IsSeq (main (F := Ideal) d) ops } := by
  apply Subtype.mk
  simp only [main, main_part0, main_part1, main_part2, fn_std.body, fn_var.body, fn_where.body, fn_clip.body, fn_norm.body,
    fn_argmax.body, fn_take_along_axis.body, fn_one_hot.body, fn_argsort.body, fn_cumsum_0.body, fn_cumsum.body,
    fn_clip_1.body, fn_one_hot_2.body, bind_assoc, pure_bind]
  hlo_seq

/-- The reference's operations, in order. -/
def ops : List (HloOp τ sig (Elt Ideal)) := line.1

/-- What the buffers hold after the line, from contents `V`. -/
def final (V : Valuation τ sig (Elt Ideal)) (b : Ref sig .tc) : b.ty.Contents (Elt Ideal) :=
  after ops V (Proc.devRef .tc b)

set_option maxRecDepth 8192 in
/-- Every operation of the line touches buffers of the TensorCore only. -/
theorem ops_sub : ops.Forall fun op => op.bufs ⊆ tcRefs τ sig := by
  unfold ops line; simp

set_option maxRecDepth 8192 in
/-- Every operation of the line determines what it writes. -/
theorem ops_fresh : ∀ op ∈ ops, op.fresh = ∅ := by
  unfold ops line
  exact List.forall_iff_forall_mem.1 (forall_fresh_of_map rfl)

/-- Every execution of the reference ends with each buffer at `final` of its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = final (launchContents m c) b :=
  run_hlo _ _ line.2 (by decide) (by decide) ops_sub ops_fresh m ρ

/-- The reference has no semaphore, so its counters read zero at every state. -/
theorem sem_zero (s : MemSt nD τ sig (Elt Ideal)) : s.sem = fun _ => 0 := sem_eq_zero_of_no_sems (by decide) s

end Cert.RefRun

end
-- ==== Proof.Frames.lean ====
/-
  The claims that need no value: the kernel, its idealization and the reference run, leave their arguments and
  their semaphores as they were; and the one rewritten constant is what its rule says.
-/
module

public import proofs.«01_k».proof.Defs
public import proofs.«01_k».proof.Proof.RefRun
public import proofs.«01_k».proof.Proof.Gen.Kernel.Frame
public import proofs.«01_k».proof.Proof.Gen.KernelIdeal.Frame

@[expose] public section

set_option maxRecDepth 65536

noncomputable section

namespace Cert.Frames

open Idealize.ShloMosaic Idealize.SL.Sem Idealize.ShloMosaic.StableHlo

theorem kernel : Cert.quiescent_Kernel (hKernel := Cert.Kernel.Gen.facts) := fun m g _ => Cert.Kernel.Gen.frame m g

theorem kernelIdeal : Cert.quiescent_KernelIdeal (hKernelIdeal := Cert.KernelIdeal.Gen.facts) :=
  fun m g _ => Cert.KernelIdeal.Gen.frame m g

section
open Cert.ReferenceIdeal Cert.ReferenceIdeal.Gen Cert.RefRun

variable (V : Valuation τ sig (Elt Ideal))

/-- The line writes none of the arguments. -/
theorem arg0 : final V main_arg0 = V (Proc.devRef .tc main_arg0) := by unfold final ops line; after_reads_simp
theorem arg1 : final V main_arg1 = V (Proc.devRef .tc main_arg1) := by unfold final ops line; after_reads_simp
theorem arg2 : final V main_arg2 = V (Proc.devRef .tc main_arg2) := by unfold final ops line; after_reads_simp

end

theorem reference : Cert.quiescent_ReferenceIdeal (hReferenceIdeal := Cert.ReferenceIdeal.Gen.facts) := fun m g _ =>
  (θ_run (Cert.ReferenceIdeal.defs (F := Ideal)) _ _).2 (fun r h => ⟨fun c =>
    ⟨(h c _).trans (arg0 _), (h c _).trans (arg1 _), (h c _).trans (arg2 _)⟩, RefRun.sem_zero r.2⟩) (RefRun.run m g)

theorem preserves : Cert.preserves_Kernel_KernelIdeal :=
  IdealRules.named_const.statement Cert.KernelIdeal.κ "inv_hw" .f32 0x3BA72F05#32 ((196⁻¹ : ℝ) : EReal) rfl

end Cert.Frames
-- ==== Proof.Gate.lean ====
/-
  The gate: what the softmax of a row of logits is, and what the arg-max of a row of probabilities is.
  Both programs write these two steps with the same host operations, so they are named once here and read
  at an index once here.
-/
module

public import proofs.«01_k».proof.ReferenceIdeal
public import proofs.«01_k».proof.Proof.Gen.ReferenceIdeal
public import Idealize.ShloMosaic.PureOps.Ideal
public import Idealize.ShloMosaic.Lib.Pointwise
public import Idealize.ShloMosaic.Lib.ValueIdxCore

@[expose] public section

noncomputable section

namespace Cert.Gate

open Idealize.ShloMosaic
open Cert.ReferenceIdeal Cert.ReferenceIdeal.Gen

/-- The host's word for minus infinity is the least extended real. -/
theorem negInf : Ideal.ofBits .f32 0xFF800000#32 = (⊥ : EReal) := by simp [Ideal.ofBits, Ideal.ieee]

/-- A row's greatest logit as the host takes it: the fold of the maximum from minus infinity, and once more
    the maximum with minus infinity. -/
def rowTop (l : FVec Ideal S1024x16 .f32) : FVec Ideal S1024 .f32 :=
  maximumf (broadcastInDim S1024 ![] bcast_S_S1024 (constant S_ .f32 0xFF800000#32))
    (Host.reduce FloatOps.maximumf l (constant S_ .f32 0xFF800000#32) reducesTo_S1024x16_S1024_d1 h_S_)

/-- A vector of 1024 spread along the sixteen columns. -/
def spread (x : FVec Ideal S1024 .f32) : FVec Ideal S1024x16 .f32 :=
  broadcastInDim S1024x16 ![0, 1] bcast_S1024x1_S1024x16_0_1 (broadcastInDim S1024x1 ![0] bcast_S1024_S1024x1_0 x)

/-- The exponentials of the logits, each row's greatest subtracted first. -/
def shifted (l : FVec Ideal S1024x16 .f32) : FVec Ideal S1024x16 .f32 := Host.exp (subf l (spread (rowTop l)))

/-- The host's softmax along the sixteen columns. -/
def softmax (l : FVec Ideal S1024x16 .f32) : FVec Ideal S1024x16 .f32 :=
  Host.divf (shifted l)
    (spread (Host.reduceAdd (shifted l) (constant S_ .f32 0x00000000#32) reducesTo_S1024x16_S1024_d1 h_S_))

/-- The host's arg-max along the sixteen columns. -/
def best (p : FVec Ideal S1024x16 .f32) : IVec S1024 32 := fun j =>
  (Host.argReduce reducer_argmax_f32_i32 p (iotaInDim S1024x16 32 1) (constant S_ .f32 0xFF800000#32) (constantI S_ 32 0#32)
    reducesTo_S1024x16_S1024_d1 h_S_ j).2

/-- The greatest of sixteen values. -/
def top (q : Fin 16 → EReal) : EReal := Finset.univ.sup q

/-- The fold of the maximum from minus infinity is the supremum. -/
theorem fold_max_eq_sup {ι : Type} (s : Finset ι) (q : ι → EReal) : s.fold max ⊥ q = s.sup q := rfl

theorem rowTop_at (l : FVec Ideal S1024x16 .f32) (r : Fin 1024) :
    rowTop l (ix1 r) = top fun e => l (ix2 r e) := by
  unfold top
  rw [← fold_max_eq_sup]
  pointwise [rowTop]
  rw [negInf, max_eq_right bot_le]

/-- One entry of the shifted exponentials. -/
theorem shifted_at (l : FVec Ideal S1024x16 .f32) (r : Fin 1024) (e : Fin 16) :
    shifted l (ix2 r e) = Ideal.exp (l (ix2 r e) - top fun e' => l (ix2 r e')) := by
  rw [← rowTop_at]
  pointwise [shifted, spread]

/-- One probability: the shifted exponential over the sum of the row's. -/
theorem softmax_at (l : FVec Ideal S1024x16 .f32) (r : Fin 1024) (e : Fin 16) :
    softmax l (ix2 r e) = Ideal.div (shifted l (ix2 r e)) (∑ e' : Fin 16, shifted l (ix2 r e')) := by
  pointwise [softmax, spread]

/-! ## The arg-max -/

/-- `k` is the first place at which the sixteen values `q` are greatest. -/
def IsFirst (q : Fin 16 → EReal) (k : Fin 16) : Prop := ∀ k', q k' < q k ∨ (q k' = q k ∧ k ≤ k')

theorem IsFirst.unique {q : Fin 16 → EReal} {a b : Fin 16} (ha : IsFirst q a) (hb : IsFirst q b) : a = b := by
  rcases ha b with h | ⟨h, h'⟩
  · rcases hb a with g | ⟨g, _⟩
    · exact absurd (h.trans g) (lt_irrefl _)
    · exact absurd h (by rw [g]; exact lt_irrefl _)
  · rcases hb a with g | ⟨_, g'⟩
    · exact absurd g (by rw [h]; exact lt_irrefl _)
    · exact le_antisymm h' g'

theorem IsFirst.top_eq {q : Fin 16 → EReal} {k : Fin 16} (h : IsFirst q k) : top q = q k :=
  le_antisymm (Finset.sup_le fun k' _ => (h k').elim le_of_lt fun g => le_of_eq g.1) (Finset.le_sup (f := q) (Finset.mem_univ k))

/-- One step of the arg-max's fold keeps the better of the two pairs: the greater value, and on equal values the
    smaller place. -/
theorem step_eq (a b : EReal) (m n : Fin 16) :
    reducer_argmax_f32_i32 (F := Ideal) (a, BitVec.ofNat 32 m.val) (b, BitVec.ofNat 32 n.val)
      = if b < a ∨ (a = b ∧ m < n) then (a, BitVec.ofNat 32 m.val) else (b, BitVec.ofNat 32 n.val) := by
  have hs : IntOp.cmpi .slt (BitVec.ofNat 32 m.val) (BitVec.ofNat 32 n.val) = BitVec.ofBool (decide (m < n)) := by
    revert m n; decide +kernel
  unfold reducer_argmax_f32_i32
  simp only [Ideal.cmpf_def, hs]
  rcases lt_trichotomy a b with h | h | h
  · simp [Ideal.cmp, h.ne, not_lt_of_gt h, Scalar.select, IntOp.ori, IntOp.andi]
  · subst h
    by_cases hmn : m < n <;> simp [Ideal.cmp, hmn, Scalar.select, IntOp.ori, IntOp.andi]
  · simp [Ideal.cmp, h.ne', h, Scalar.select, IntOp.ori, IntOp.andi]

/-- The fold over a list of places, from a pair already met, ends at the first greatest of all of them. -/
theorem fold_first (q : Fin 16 → EReal) : ∀ (L : List (Fin 16)) (k : Fin 16),
    ∃ k', (k' = k ∨ k' ∈ L) ∧ (∀ j, j = k ∨ j ∈ L → q j < q k' ∨ (q j = q k' ∧ k' ≤ j))
      ∧ L.foldl (fun a n => reducer_argmax_f32_i32 (F := Ideal) a (q n, BitVec.ofNat 32 n.val)) (q k, BitVec.ofNat 32 k.val)
        = (q k', BitVec.ofNat 32 k'.val)
  | [], k => ⟨k, Or.inl rfl, fun j hj => Or.inr (by rcases hj with rfl | h; exacts [⟨rfl, le_rfl⟩, (List.not_mem_nil h).elim]), rfl⟩
  | n :: L, k => by
    rw [List.foldl_cons, step_eq]
    by_cases h : q n < q k ∨ (q k = q n ∧ k < n)
    · rw [if_pos h]
      obtain ⟨k', hk, hall, he⟩ := fold_first q L k
      refine ⟨k', hk.imp_right (List.mem_cons_of_mem _), fun j hj => ?_, he⟩
      rcases hj with hj | hj
      · exact hall j (Or.inl hj)
      · rcases List.mem_cons.1 hj with rfl | hj
        · rcases hall k (Or.inl rfl) with g | ⟨g, g'⟩
          · exact Or.inl (h.elim (fun t => t.trans g) fun t => t.1 ▸ g)
          · exact h.elim (fun t => Or.inl (g ▸ t)) fun t => Or.inr ⟨t.1.symm.trans g, g'.trans t.2.le⟩
        · exact hall j (Or.inr hj)
    · rw [if_neg h]
      obtain ⟨k', hk, hall, he⟩ := fold_first q L n
      refine ⟨k', Or.inr (hk.elim (fun t => t ▸ List.mem_cons_self) (List.mem_cons_of_mem _)), fun j hj => ?_, he⟩
      rcases hj with rfl | hj
      · push Not at h
        rcases hall n (Or.inl rfl) with g | ⟨g, g'⟩
        · exact Or.inl (lt_of_le_of_lt h.1 g)
        · rcases h.1.lt_or_eq with t | t
          · exact Or.inl (g ▸ t)
          · exact Or.inr ⟨t.trans g, g'.trans (h.2 t)⟩
      · rcases List.mem_cons.1 hj with rfl | hj
        · exact hall j (Or.inl rfl)
        · exact hall j (Or.inr hj)

/-- The same from the arg-max's own start, minus infinity at place zero, where no value is minus infinity. -/
theorem fold_start (q : Fin 16 → EReal) (hq : ∀ k, q k ≠ ⊥) (L : List (Fin 16)) (hL : ∀ k, k ∈ L) :
    ∃ k, IsFirst q k ∧
      L.foldl (fun a n => reducer_argmax_f32_i32 (F := Ideal) a (q n, BitVec.ofNat 32 n.val)) (⊥, 0#32) = (q k, BitVec.ofNat 32 k.val) := by
  cases L with
  | nil => exact (List.not_mem_nil (hL 0)).elim
  | cons n L =>
    rw [List.foldl_cons]
    have := step_eq ⊥ (q n) 0 n
    rw [if_neg (by rintro (h | h); exacts [not_lt_bot h, hq n h.1.symm])] at this
    change ∃ k, IsFirst q k ∧ L.foldl _ (reducer_argmax_f32_i32 (F := Ideal) (⊥, BitVec.ofNat 32 (0 : Fin 16).val) (q n, BitVec.ofNat 32 n.val)) = _
    rw [this]
    obtain ⟨k, _, hall, he⟩ := fold_first q L n
    exact ⟨k, fun k' => hall k' (List.mem_cons.1 (hL k')), he⟩

/-- The row and the column of an index of a 1024 × 16 array. -/
def row (i : S1024x16.Idx) : Fin 1024 := i 0
def col (i : S1024x16.Idx) : Fin 16 := i 1

theorem eq_row_col (i : S1024x16.Idx) : i = ix2 (row i) (col i) := eq_ix2 i

/-- Dropping the column of an index leaves its row. -/
theorem drop_eq (i : S1024x16.Idx) : reducesTo_S1024x16_S1024_d1.drop i = ix1 (row i) :=
  funext fun b => by obtain rfl : b = 0 := Subsingleton.elim _ _; rfl

/-- A row's arg-max is the first column at which the row's values are greatest. -/
theorem best_at (p : FVec Ideal S1024x16 .f32) (r : Fin 1024) (hp : ∀ e : Fin 16, p (ix2 r e) ≠ (⊥ : EReal)) :
    ∃ k : Fin 16, IsFirst (fun e => p (ix2 r e)) k ∧ best p (ix1 r) = BitVec.ofNat 32 k.val := by
  let L : List (Fin S1024x16.numel) := (List.finRange S1024x16.numel).filter
    fun n => decide (reducesTo_S1024x16_S1024_d1.drop (S1024x16.rowMajor.symm n) = ix1 r)
  have hrow : ∀ n ∈ L, S1024x16.rowMajor.symm n = ix2 r (col (S1024x16.rowMajor.symm n)) := fun n hn => by
    have h := of_decide_eq_true (List.mem_filter.1 hn).2
    rw [drop_eq, ix1_inj] at h
    rw [← h]; exact eq_row_col _
  have hmem : ∀ k : Fin 16, k ∈ L.map fun n => col (S1024x16.rowMajor.symm n) := fun k =>
    List.mem_map.2 ⟨S1024x16.rowMajor (ix2 r k), List.mem_filter.2 ⟨List.mem_finRange _, decide_eq_true (by
      rw [Equiv.symm_apply_apply, drop_eq]; rfl)⟩, by rw [Equiv.symm_apply_apply]; rfl⟩
  obtain ⟨k, hk, he⟩ := fold_start (fun e => p (ix2 r e)) hp _ hmem
  refine ⟨k, hk, ?_⟩
  have hfold : Host.reduce2 (reducer_argmax_f32_i32 (F := Ideal)) p (iotaInDim S1024x16 32 1) (constant S_ .f32 0xFF800000#32) (constantI S_ 32 0#32)
      reducesTo_S1024x16_S1024_d1 h_S_ (ix1 r) = (p (ix2 r k), BitVec.ofNat 32 k.val) := by
    rw [← he, List.foldl_map]
    have hstart : ((constant S_ .f32 0xFF800000#32 : FVec Ideal S_ .f32) (Shape.Idx.first h_S_), (constantI S_ 32 0#32) (Shape.Idx.first h_S_)) = ((⊥ : EReal), 0#32) :=
      congrArg (fun x : EReal => (x, 0#32)) negInf
    unfold Host.reduce2
    rw [hstart]
    refine List.foldl_ext _ _ _ fun a n hn => ?_
    exact congrArg (fun i => reducer_argmax_f32_i32 (F := Ideal) a (p i, iotaInDim S1024x16 32 1 i)) (hrow n hn)
  unfold best
  rw [Ideal.argReduce_eq_reduce2, hfold]

end Cert.Gate
-- ==== Proof.GateReal.lean ====
/-
  The gate on real logits. The logits that both programs route on are clipped to between minus ten and ten, so they
  are real numbers whatever the input holds; then a row's greatest logit is one of them, its exponentials sum to a
  positive real, its probabilities are real, and the logarithm of the sum of the exponentials may be taken with the
  greatest logit subtracted first and added afterwards.
-/
module

public import proofs.«01_k».proof.Proof.Gate

@[expose] public section

noncomputable section

namespace Cert.Gate

open Idealize.ShloMosaic
open Cert.ReferenceIdeal Cert.ReferenceIdeal.Gen

/-- The raw logits clipped to between minus ten and ten and divided by one and a half, as the host writes it. -/
def clipped (raw : FVec Ideal S1024x16 .f32) : FVec Ideal S1024x16 .f32 :=
  Host.divf
    (minimumf (broadcastInDim S1024x16 ![] bcast_S_S1024x16 (constant S_ .f32 0x41200000#32))
      (maximumf (broadcastInDim S1024x16 ![] bcast_S_S1024x16 (constant S_ .f32 0xC1200000#32)) raw))
    (broadcastInDim S1024x16 ![] bcast_S_S1024x16 (constant S_ .f32 0x3FC00000#32))

theorem ten : Ideal.ofBits .f32 0x41200000#32 = ((10 : ℝ) : EReal) := by
  simp [Ideal.ofBits, Ideal.ieee, -EReal.coe_mul]; norm_num

theorem minusTen : Ideal.ofBits .f32 0xC1200000#32 = ((-10 : ℝ) : EReal) := by
  simp [Ideal.ofBits, Ideal.ieee, -EReal.coe_mul, -EReal.coe_neg]; norm_num

theorem oneAndHalf : Ideal.ofBits .f32 0x3FC00000#32 = ((3 / 2 : ℝ) : EReal) := by
  simp [Ideal.ofBits, Ideal.ieee, -EReal.coe_mul]; norm_num

/-- One clipped logit. -/
def clip1 (x : EReal) : EReal := Ideal.div (min ((10 : ℝ) : EReal) (max ((-10 : ℝ) : EReal) x)) ((3 / 2 : ℝ) : EReal)

theorem clipped_at (raw : FVec Ideal S1024x16 .f32) (r : Fin 1024) (e : Fin 16) :
    clipped raw (ix2 r e) = clip1 (raw (ix2 r e)) := by
  pointwise [clipped]
  rw [ten, minusTen, oneAndHalf]
  rfl

/-- A clipped logit is a real number. -/
theorem clip1_real (x : EReal) : ∃ a : ℝ, clip1 x = (a : EReal) := by
  have h : ∃ b : ℝ, min ((10 : ℝ) : EReal) (max ((-10 : ℝ) : EReal) x) = (b : EReal) := by
    induction x using EReal.rec with
    | bot => exact ⟨-10, by rw [max_eq_left bot_le]; exact min_eq_right (EReal.coe_le_coe_iff.2 (by norm_num))⟩
    | top => exact ⟨10, by rw [max_eq_right le_top, min_eq_left le_top]⟩
    | coe x => exact ⟨min 10 (max (-10) x), by
      have hm := EReal.coe_strictMono.monotone
      rw [hm.map_min, hm.map_max]⟩
  obtain ⟨b, hb⟩ := h
  exact ⟨b * (1 / (3 / 2)), by rw [clip1, hb, Ideal.div_coe (by norm_num), ← EReal.coe_mul]⟩

/-- The logits of an array are all real. -/
def Real2 (l : FVec Ideal S1024x16 .f32) : Prop := ∀ r e, ∃ a : ℝ, l (ix2 r e) = (a : EReal)

theorem clipped_real (raw : FVec Ideal S1024x16 .f32) : Real2 (clipped raw) := fun r e => by
  rw [clipped_at]; exact clip1_real _

/-! ## Sixteen reals -/

/-- The greatest of sixteen reals is one of them. -/
theorem top_coe (a : Fin 16 → ℝ) : ∃ k, top (fun e => (a e : EReal)) = (a k : EReal) := by
  obtain ⟨k, _, hk⟩ := Finset.exists_mem_eq_sup Finset.univ ⟨0, Finset.mem_univ _⟩ fun e => (a e : EReal)
  exact ⟨k, hk⟩

/-- A finite sum of reals in the extended reals is the real sum. -/
theorem sum_coe {ι : Type} [Fintype ι] (a : ι → ℝ) : (∑ e, ((a e : ℝ) : EReal)) = ((∑ e, a e : ℝ) : EReal) := by
  classical
  have : ∀ s : Finset ι, (∑ e ∈ s, ((a e : ℝ) : EReal)) = ((∑ e ∈ s, a e : ℝ) : EReal) := fun s => by
    induction s using Finset.induction_on with
    | empty => simp
    | insert x s hx ih => rw [Finset.sum_insert hx, Finset.sum_insert hx, ih, EReal.coe_add]
  exact this Finset.univ

/-- The shifted exponentials over their sum: real numbers. -/
theorem share_real (a : Fin 16 → ℝ) (e : Fin 16) :
    ∃ b : ℝ, Ideal.div (Ideal.exp ((a e : EReal) - top fun e' => (a e' : EReal)))
      (∑ e', Ideal.exp ((a e' : EReal) - top fun e'' => (a e'' : EReal))) = (b : EReal) := by
  obtain ⟨k, hk⟩ := top_coe a
  rw [hk]
  simp only [← EReal.coe_sub, Ideal.exp_coe, sum_coe]
  have hpos : 0 < ∑ e', Real.exp (a e' - a k) := Finset.sum_pos (fun _ _ => Real.exp_pos _) ⟨0, Finset.mem_univ _⟩
  exact ⟨_, by rw [Ideal.div_coe hpos.ne', ← EReal.coe_mul]⟩

/-- The logarithm of the sum of the exponentials, the greatest taken out first. -/
theorem logSum (a : Fin 16 → ℝ) :
    (top fun e => (a e : EReal)) + Ideal.log (∑ e, Ideal.exp ((a e : EReal) - top fun e' => (a e' : EReal)))
      = Ideal.log (∑ e, Ideal.exp (a e : EReal)) := by
  obtain ⟨k, hk⟩ := top_coe a
  rw [hk]
  simp only [← EReal.coe_sub, Ideal.exp_coe, sum_coe, Ideal.log_coe]
  have hpos : 0 < ∑ e', Real.exp (a e' - a k) := Finset.sum_pos (fun _ _ => Real.exp_pos _) ⟨0, Finset.mem_univ _⟩
  have hpos' : 0 < ∑ e', Real.exp (a e') := Finset.sum_pos (fun _ _ => Real.exp_pos _) ⟨0, Finset.mem_univ _⟩
  rw [if_neg hpos.not_ge, if_neg hpos'.not_ge, ← EReal.coe_add]
  congr 1
  rw [← Real.exp_eq_exp, Real.exp_add, Real.exp_log hpos, Real.exp_log hpos', Finset.mul_sum]
  exact Finset.sum_congr rfl fun e _ => by rw [← Real.exp_add]; congr 1; ring

theorem softmax_real {l : FVec Ideal S1024x16 .f32} (hl : Real2 l) : Real2 (softmax l) := fun r e => by
  choose a ha using hl
  obtain ⟨b, hb⟩ := share_real (a r) e
  refine ⟨b, ?_⟩
  rw [softmax_at]
  simp only [shifted_at, ha]
  exact hb

/-- A row's arg-max column. -/
def pick (p : FVec Ideal S1024x16 .f32) (r : Fin 1024) : Fin 16 :=
  Classical.epsilon fun k => IsFirst (fun e => p (ix2 r e)) k

theorem pick_spec {p : FVec Ideal S1024x16 .f32} (hp : Real2 p) (r : Fin 1024) :
    IsFirst (fun e => p (ix2 r e)) (pick p r) ∧ best p (ix1 r) = BitVec.ofNat 32 (pick p r).val := by
  obtain ⟨k, hk, he⟩ := best_at p r fun e => by obtain ⟨a, ha⟩ := hp r e; rw [ha]; exact EReal.coe_ne_bot a
  have h : IsFirst (fun e => p (ix2 r e)) (pick p r) := Classical.epsilon_spec (p := fun k => IsFirst (fun e => p (ix2 r e)) k) ⟨k, hk⟩
  exact ⟨h, by rw [he, hk.unique h]⟩

end Cert.Gate
-- ==== Proof.RefStages.lean ====
/-
  The reference's line in stages: each stage is the host operations between two named buffers, and an equation says
  that the line leaves the later buffer at the stage of the earlier ones. This module goes as far as the losses.
-/
module

public import proofs.«01_k».proof.Proof.RefRun
public import proofs.«01_k».proof.Proof.Gate
public import proofs.«01_k».proof.Proof.GateReal

@[expose] public section

set_option maxRecDepth 65536

noncomputable section

namespace Cert.RefStages

open Idealize.ShloMosaic Idealize.ShloMosaic.TcCoe Idealize.ShloMosaic.StableHlo
open Cert.ReferenceIdeal Cert.ReferenceIdeal.Gen Cert.RefRun

/-- The zero word, of which every sum starts. -/
def zero : FVec Ideal S_ .f32 := constant S_ .f32 0x00000000#32

/-- The mean over the image's two last axes. -/
def mean (x : FVec Ideal S1024x384x14x14 .f32) : FVec Ideal S1024x384 .f32 :=
  Host.divf (F := Ideal) (Host.reduceAdd x zero reducesTo_S1024x384x14x14_S1024x384_d2_3 h_S_)
    (broadcastInDim S1024x384 ![] bcast_S_S1024x384 (constant S_ .f32 0x43440000#32))

/-- The raw logits: the mean image times the gate's weights. -/
def raw (x : FVec Ideal S1024x384x14x14 .f32) (w : FVec Ideal S384x16 .f32) : FVec Ideal S1024x16 .f32 :=
  Host.dotGeneral (F := Ideal) dot_S1024x384_S384x16_S1024x16_1_0_0_1_n_n none (mean x) w

/-- The number of logits, as the standard deviation takes it: sixteen thousand and some, less zero. -/
def count : FVec Ideal S_ .f32 := subf (constant S_ .f32 0x46800000#32) (sitofp .f32 (constantI S_ 32 0#32))

/-- The logits less their mean. -/
def centred (x : FVec Ideal S1024x16 .f32) : FVec Ideal S1024x16 .f32 :=
  subf x (broadcastInDim S1024x16 ![0, 1] bcast_S1x1_S1024x16_0_1 (Host.divf (F := Ideal)
    (broadcastInDim S1x1 ![] bcast_S_S1x1 (Host.reduceAdd (F := Ideal) x zero reducesTo_S1024x16_S_d0_1 h_S_))
    (broadcastInDim S1x1 ![] bcast_S_S1x1 (constant S_ .f32 0x46800000#32))))

/-- The standard deviation of all logits. -/
def deviation (x : FVec Ideal S1024x16 .f32) : FVec Ideal S_ .f32 :=
  Host.sqrt (F := Ideal) (select (cmpf .ogt count zero)
    (Host.divf (F := Ideal) (Host.reduceAdd (F := Ideal) (mulf (centred x) (centred x)) zero reducesTo_S1024x16_S_d0_1 h_S_) count)
    (constant S_ .f32 0x7FC00000#32))

/-- The mean of the squared logarithms of the rows' sums of exponentials. -/
def zLoss (l : FVec Ideal S1024x16 .f32) : FVec Ideal S_ .f32 :=
  let lse : FVec Ideal S1024 .f32 := Host.log (F := Ideal) (Host.reduceAdd (F := Ideal) (Host.exp (F := Ideal) l) zero reducesTo_S1024x16_S1024_d1 h_S_)
  Host.divf (F := Ideal) (Host.reduceAdd (F := Ideal) (mulf lse lse) zero reducesTo_S1024_S_d0 h_S_) (constant S_ .f32 0x44800000#32)

/-- The columns, each over its norm. -/
def normed (l : FVec Ideal S1024x16 .f32) : FVec Ideal S1024x16 .f32 :=
  Host.divf (F := Ideal) l (broadcastInDim S1024x16 ![0, 1] bcast_S1x16_S1024x16_0_1 (maximumf
    (Host.sqrt (F := Ideal) (broadcastInDim S1x16 ![1] bcast_S16_S1x16_1 (Host.reduceAdd (F := Ideal) (mulf l l) zero reducesTo_S1024x16_S16_d0 h_S_)))
    (broadcastInDim S1x16 ![] bcast_S_S1x16 (constant S_ .f32 0x2B8CBCCC#32))))

/-- The columns' inner products. -/
def products (n : FVec Ideal S1024x16 .f32) : FVec Ideal S16x16 .f32 :=
  Host.dotGeneral (F := Ideal) dot_S16x1024_S1024x16_S16x16_1_0_0_1_n_n none (transpose S16x1024 [1, 0] n transposes_S1024x16_S16x1024_1_0) n

/-- One less the identity matrix. -/
def offEye : FVec Ideal S16x16 .f32 :=
  subf (broadcastInDim S16x16 ![] bcast_S_S16x16 (constant S_ .f32 0x3F800000#32))
    (uitofp .f32 (cmpi .eq (addi (iotaInDim S16x16 32 0) (broadcastInDim S16x16 ![] bcast_S_S16x16 (constantI S_ 32 0#32)))
      (iotaInDim S16x16 32 1)))

/-- The diversity loss. -/
def divLoss (l : FVec Ideal S1024x16 .f32) : FVec Ideal S_ .f32 :=
  let off : FVec Ideal S16x16 .f32 := mulf (products (normed l)) offEye
  Host.divf (F := Ideal) (Host.reduceAdd (F := Ideal) (mulf off off) zero reducesTo_S16x16_S_d0_1 h_S_) (constant S_ .f32 0x43700000#32)

/-- The one-hot rows of the chosen columns. -/
def oneHot (k : IVec S1024 32) : FVec Ideal S1024x16 .f32 :=
  uitofp .f32 (cmpi .eq
    (broadcastInDim S1024x16 ![0, 1] bcast_S1024x1_S1024x16_0_1 (broadcastInDim S1024x1 ![0] bcast_S1024_S1024x1_0 k))
    (broadcastInDim S1024x16 ![0, 1] bcast_S1x16_S1024x16_0_1 (iotaInDim S1x16 32 1)))

/-- The mean of each column. -/
def colMean (x : FVec Ideal S1024x16 .f32) : FVec Ideal S16 .f32 :=
  Host.divf (F := Ideal) (Host.reduceAdd (F := Ideal) x zero reducesTo_S1024x16_S16_d0 h_S_)
    (broadcastInDim S16 ![] bcast_S_S16 (constant S_ .f32 0x44800000#32))

/-- The balance loss, from the one-hot rows and the probabilities. -/
def auxLoss (h p : FVec Ideal S1024x16 .f32) : FVec Ideal S_ .f32 :=
  mulf (Host.reduceAdd (F := Ideal) (mulf (colMean h) (colMean p)) zero reducesTo_S16_S_d0 h_S_) (constant S_ .f32 0x41800000#32)

variable (V : Valuation τ sig (Elt Ideal))

theorem final_v3 : (final V main_v3 : FVec Ideal S1024x16 .f32)
    = raw (V (Proc.devRef .tc main_arg0)) (V (Proc.devRef .tc main_arg1)) := by
  unfold final ops line raw mean zero; after_reads_simp <;> rfl

theorem final_v4 : (final V main_v4 : FVec Ideal S_ .f32) = deviation (final V main_v3 : FVec Ideal S1024x16 .f32) := by
  unfold final ops line deviation centred count zero; after_reads_simp <;> rfl

theorem final_v7 : (final V main_v7 : FVec Ideal S1024x16 .f32) = Gate.clipped (final V main_v3 : FVec Ideal S1024x16 .f32) := by
  unfold final ops line Gate.clipped; after_reads_simp <;> rfl

theorem final_v13 : (final V main_v13 : FVec Ideal S_ .f32) = zLoss (final V main_v7 : FVec Ideal S1024x16 .f32) := by
  unfold final ops line zLoss zero; after_reads_simp <;> rfl

theorem final_v32 : (final V main_v32 : FVec Ideal S_ .f32) = divLoss (final V main_v7 : FVec Ideal S1024x16 .f32) := by
  unfold final ops line divLoss products normed offEye zero; after_reads_simp <;> rfl

theorem final_v43 : (final V main_v43 : FVec Ideal S1024x16 .f32) = Gate.softmax (final V main_v7 : FVec Ideal S1024x16 .f32) := by
  unfold final ops line Gate.softmax Gate.spread Gate.shifted Gate.rowTop; after_reads_simp <;> rfl

theorem final_v44 : (final V main_v44 : IVec S1024 32) = Gate.best (final V main_v43 : FVec Ideal S1024x16 .f32) := by
  unfold final ops line Gate.best; after_reads_simp <;> rfl

theorem final_v48 : (final V main_v48 : FVec Ideal S1024x16 .f32) = oneHot (final V main_v44 : IVec S1024 32) := by
  unfold final ops line oneHot; after_reads_simp <;> rfl

theorem final_v57 : (final V main_v57 : FVec Ideal S_ .f32)
    = auxLoss (final V main_v48 : FVec Ideal S1024x16 .f32) (final V main_v43 : FVec Ideal S1024x16 .f32) := by
  unfold final ops line auxLoss colMean zero; after_reads_simp <;> rfl

end Cert.RefStages
-- ==== Proof.KernelRun.lean ====
/-
  The kernel's whole run: every buffer outside the regions' scratch memory ends at the last boundary's contents.
-/
module

public import proofs.«01_k».proof.Proof.Gen.KernelIdeal.Frame

@[expose] public section

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unfolding plain definitions in a metavariable's type
set_option backward.isDefEq.respectTransparency.types false in
/-- From any memory with zero counters, every weakly fair execution of the kernel program terminates without a
    fault; at the end every unscoped buffer of every device holds the contents of the last boundary of the run,
    and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W11 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

end Cert.KernelRun
-- ==== Proof.PoolBlock.lean ====
/-
  The pooling kernel's block: what one grid point computes from its 14 x 14 x 64 x 384 block of the image.
  The kernel adds the upper seven rows of the 14 x 14 window in one chain, the lower seven in another, adds the
  two, and multiplies by 1/196; that is the sum over the whole window divided by 196.
-/
module

public import proofs.«01_k».proof.Proof.Gen.KernelIdeal.Frame
public import Idealize.ShloMosaic.PureOps.Ideal
public import Idealize.ShloMosaic.Lib.Pointwise
public import Idealize.ShloMosaic.Lib.Pipeline.ValueKit

@[expose] public section

set_option maxRecDepth 16384

noncomputable section

namespace Cert.Pool

open Idealize.ShloMosaic
open Cert.KernelIdeal Cert.KernelIdeal.Gen

/-- The image block at window position (a, b), row `n`, channel `c`, read as zero outside the window. -/
def px (x : FVec Ideal S14x14x64x384 .f32) (n : Fin 64) (c : Fin 384) (a b : ℕ) : EReal :=
  if h : a < 14 ∧ b < 14 then x (ix4 ⟨a, h.1⟩ ⟨b, h.2⟩ n c) else 0

/-- Inside the window. -/
theorem px_in (x : FVec Ideal S14x14x64x384 .f32) (n : Fin 64) (c : Fin 384) {a b : ℕ} (h : a < 14 ∧ b < 14) :
    px x n c a b = x (ix4 ⟨a, h.1⟩ ⟨b, h.2⟩ n c) := dif_pos h

/-- The cast of one load to a 64 x 384 array. -/
theorem cast_at (X : FVec Ideal S1x1x64x384 .f32) (h : S1x1x64x384.ShapeCasts S64x384) (n : Fin 64) (c : Fin 384) :
    shapeCast S64x384 X h (ix2 n c) = X (ix4 0 0 n c) := by pointwise

/-- Where the load at window position (a, b) reads. -/
theorem place (a b : ℕ) (inb : ∀ k, (![a, b, 0, 0] : Fin 4 → ℕ) k + S1x1x64x384.size k ≤ S14x14x64x384.size k)
    (n : Fin 64) (c : Fin 384) :
    (Rect.unit (s := S14x14x64x384) ![a, b, 0, 0] S1x1x64x384.size inb).idx (ix4 0 0 n c)
      = ix4 ⟨a, inb 0⟩ ⟨b, inb 1⟩ n c := by
  funext k
  match k with
  | ⟨0, _⟩ => exact Fin.ext rfl
  | ⟨1, _⟩ => exact Fin.ext rfl
  | ⟨2, _⟩ => exact Fin.ext ((Nat.zero_add _).trans (Nat.one_mul _))
  | ⟨3, _⟩ => exact Fin.ext ((Nat.zero_add _).trans (Nat.one_mul _))

/-- What a grid point stores: the two chains of the window, added and multiplied by 1/196. -/
theorem block_eq (x : FVec Ideal S14x14x64x384 .f32) (n : Fin 64) (c : Fin 384) :
    out0_1 (F := Ideal) x (ix2 n c) = ((∑ b ∈ Finset.range 14, ∑ a ∈ Finset.range 7, px x n c a b)
      + (∑ b ∈ Finset.range 14, ∑ a ∈ Finset.range 7, px x n c (7 + a) b)) * (((196⁻¹ : ℝ)) : EReal) := by
  have hk : (Named.named (F := Ideal) κ "inv_hw" 0x3BA72F05#32 : Ideal .f32) = (((196⁻¹ : ℝ)) : EReal) :=
    IdealRules.named_const.ideal_named_scalar _ _ _ _ rfl
  unfold out0_1
  rw [View.canon_unit_zero (funext fun a => by fin_cases a <;> rfl)]
  simp only [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21, k0_pay22,
    k0_pay23, k0_pay24, k0_pay25, k0_pay26, k0_pay27, mulf_apply, addf_apply, cast_at, View.ld, place, ValueIdx.broadcast_apply,
    Ideal.addf_def, Ideal.mulf_def, hk]
  simp only [Finset.sum_range_succ, Finset.sum_range_zero, zero_add, add_assoc, Nat.reduceAdd, Nat.reduceLT, and_self, px_in]
  rfl

end Cert.Pool
-- ==== Proof.Pool.lean ====
/-
  The pooling kernel's array: after its sixteen grid points the pooled array holds, at every row and channel, the
  sum of the image over the 14 x 14 window times 1/196.
-/
module

public import proofs.«01_k».proof.Proof.PoolBlock

@[expose] public section

set_option maxRecDepth 16384

noncomputable section

namespace Cert.Pool

open Idealize.ShloMosaic Idealize.ShloMosaic.TcCoe
open Cert.KernelIdeal Cert.KernelIdeal.Gen

/-- The pooled array of an image laid out window first. -/
def pooled (X : FVec Ideal S14x14x1024x384 .f32) : FVec Ideal S1024x384 .f32 := fun i =>
  (∑ a : Fin 14, ∑ b : Fin 14, X (ix4 a b (i 0) (i 1))) * (((196⁻¹ : ℝ)) : EReal)

/-- The two chains together are the sum over the whole window. -/
theorem chains (x : FVec Ideal S14x14x64x384 .f32) (n : Fin 64) (c : Fin 384) :
    (∑ b ∈ Finset.range 14, ∑ a ∈ Finset.range 7, px x n c a b)
      + (∑ b ∈ Finset.range 14, ∑ a ∈ Finset.range 7, px x n c (7 + a) b)
      = ∑ a : Fin 14, ∑ b : Fin 14, x (ix4 a b n c) := by
  rw [← Finset.sum_add_distrib]
  have h : ∀ b, (∑ a ∈ Finset.range 7, px x n c a b) + (∑ a ∈ Finset.range 7, px x n c (7 + a) b)
      = ∑ a ∈ Finset.range 14, px x n c a b := fun b => (Finset.sum_range_add (fun a => px x n c a b) 7 7).symm
  simp only [h]
  rw [Finset.sum_comm, Finset.sum_range]
  refine Finset.sum_congr rfl fun a _ => ?_
  rw [Finset.sum_range]
  exact Finset.sum_congr rfl fun b _ => px_in x n c ⟨a.isLt, b.isLt⟩

variable (V : (c : Dev nD) → (b : Ref sig .tc) → Buf (Elt Ideal) ((c : Thread nD τ).loc b))

/-- Point `t` reads rows 64 t … 64 t + 63 of the image. -/
theorem idx_in : ∀ t : Fin cfg0.N, (cfg0.win 0).index t = ![0, 0, t.val, 0] := by decide +kernel

/-- Point `t` writes rows 64 t … 64 t + 63 of the pooled array. -/
theorem idx_out : ∀ t : Fin cfg0.N, (cfg0.win 1).index t = ![t.val, 0] := by decide +kernel

/-- The pooled array after the region. -/
theorem array_eq (c : Dev nD) :
    (dat0 V c).arrAt 1 cfg0.N = pooled (V c main_v0 : FVec Ideal S14x14x1024x384 .f32) := by
  refine (dat0 V c).arrAt_eq_of_covers 1 _ (by decide +kernel) fun t hf y => ?_
  blk_simp
  rw [after0_1]
  obtain ⟨n, q, rfl⟩ : ∃ (n : Fin 64) (q : Fin 384), y = ix2 n q := ⟨y 0, y 1, eq_ix2 y⟩
  refine (block_eq _ n q).trans ?_
  rw [chains]
  unfold pooled
  refine congrArg (· * (((196⁻¹ : ℝ)) : EReal)) ?_
  refine Finset.sum_congr rfl fun a _ => Finset.sum_congr rfl fun b _ => ?_
  blk_simp [iblk0]
  have h0 : win0_0.index t = ![0, 0, t.val, 0] := idx_in t
  have h1 : win0_1.index t = ![t.val, 0] := idx_out t
  blk_ext! <;> simp [h0, h1]

end Cert.Pool
-- ==== Proof.KernelHost.lean ====
/-
  The kernel program's host code: what the buffers around its three kernels hold.
-/
module

public import proofs.«01_k».proof.Proof.KernelRun
public import proofs.«01_k».proof.Proof.Pool
public import proofs.«01_k».proof.Proof.GateReal
public import Idealize.ShloMosaic.Lib.StableHlo.RunRead

@[expose] public section

set_option maxRecDepth 8192

noncomputable section

namespace Cert.KernelHost

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg) (c : Dev nD)

/-- The gate's product of pooled rows and weights. -/
def gate (x : FVec Ideal S1024x384 .f32) (w : FVec Ideal S384x16 .f32) : FVec Ideal S1024x16 .f32 :=
  Host.dotGeneral (F := Ideal) dot_S1024x384_S384x16_S1024x16_1_0_0_1_n_n none x w

/-- The raw logits of an image and the gate's weights: the pooled image times the weights. -/
def raw (x : FVec Ideal S1024x384x14x14 .f32) (w : FVec Ideal S384x16 .f32) : FVec Ideal S1024x16 .f32 :=
  gate (Pool.pooled (transpose S14x14x1024x384 [2, 3, 0, 1] x transposes_S1024x384x14x14_S14x14x1024x384_2_3_0_1)) w

/-- The raw logits of the run. -/
def logits : FVec Ideal S1024x16 .f32 :=
  raw (m ((c : Thread nD τ).loc main_arg0)) (m ((c : Thread nD τ).loc main_arg1))

theorem W1_v0 : (W1 m ρ c (Proc.devRef .tc main_v0) : FVec Ideal S14x14x1024x384 .f32)
    = transpose S14x14x1024x384 [2, 3, 0, 1] (m ((c : Thread nD τ).loc main_arg0) : FVec Ideal S1024x384x14x14 .f32)
      transposes_S1024x384x14x14_S14x14x1024x384_2_3_0_1 := by
  after_reads_simp

theorem W2_v1 : (W2 m ρ c (Proc.devRef .tc main_v1) : FVec Ideal S1024x384 .f32)
    = Pool.pooled (transpose S14x14x1024x384 [2, 3, 0, 1] (m ((c : Thread nD τ).loc main_arg0) : FVec Ideal S1024x384x14x14 .f32)
      transposes_S1024x384x14x14_S14x14x1024x384_2_3_0_1) :=
  (W2_arr m ρ c 1).trans ((Pool.array_eq (V1 m ρ) c).trans (congrArg Pool.pooled (W1_v0 m ρ c)))

theorem W3_v2 : (W3 m ρ c (Proc.devRef .tc main_v2) : FVec Ideal S1024x16 .f32) = logits m c := by
  have h : (W3 m ρ c (Proc.devRef .tc main_v2) : FVec Ideal S1024x16 .f32)
      = gate (W2 m ρ c (Proc.devRef .tc main_v1) : FVec Ideal S1024x384 .f32)
        (W2 m ρ c (Proc.devRef .tc main_arg1) : FVec Ideal S384x16 .f32) := by
    after_reads_simp
    rfl
  rw [h, W2_v1, W2_args m ρ c main_arg1 (by decide)]
  rfl

theorem W5_v5 : (W5 m ρ c (Proc.devRef .tc main_v5) : FVec Ideal S1024x16 .f32) = Gate.clipped (logits m c) := by
  have h : (W5 m ρ c (Proc.devRef .tc main_v5) : FVec Ideal S1024x16 .f32)
      = Gate.clipped (W3 m ρ c (Proc.devRef .tc main_v2) : FVec Ideal S1024x16 .f32) := by
    unfold Gate.clipped
    after_reads_simp
    rfl
  rw [h, W3_v2]

theorem W5_v16 : (W5 m ρ c (Proc.devRef .tc main_v16) : FVec Ideal S1024x16 .f32)
    = Gate.softmax (Gate.clipped (logits m c)) := by
  have h : (W5 m ρ c (Proc.devRef .tc main_v16) : FVec Ideal S1024x16 .f32)
      = Gate.softmax (W5 m ρ c (Proc.devRef .tc main_v5) : FVec Ideal S1024x16 .f32) := by
    unfold Gate.softmax Gate.shifted Gate.spread Gate.rowTop
    after_reads_simp
  rw [h, W5_v5]

/-- The probabilities of the run. -/
def probs : FVec Ideal S1024x16 .f32 := Gate.softmax (Gate.clipped (logits m c))

theorem W6_v17 : (W6 m ρ c (Proc.devRef .tc main_v17) : IVec S1024 32) = Gate.best (probs m c) := by
  have h : (W6 m ρ c (Proc.devRef .tc main_v17) : IVec S1024 32)
      = Gate.best (W5 m ρ c (Proc.devRef .tc main_v16) : FVec Ideal S1024x16 .f32) := by
    show after hostOps1_3 (W5 m ρ c) _ = _
    generalize W5 m ρ c = V
    unfold Gate.best
    after_reads_simp
    rfl
  rw [h, W5_v16]
  rfl

/-- The greatest probability of each row, as a column. -/
def topCol (p : FVec Ideal S1024x16 .f32) : FVec Ideal S1024x1 .f32 :=
  broadcastInDim S1024x1 ![0] bcast_S1024_S1024x1_0
    (Host.reduce FloatOps.maximumf p (constant S_ .f32 0xFF800000#32) reducesTo_S1024x16_S1024_d1 h_S_)

theorem W7_v19 : (W7 m ρ c (Proc.devRef .tc main_v19) : FVec Ideal S1024x1 .f32) = topCol (probs m c) := by
  have h : (W7 m ρ c (Proc.devRef .tc main_v19) : FVec Ideal S1024x1 .f32)
      = topCol (W6 m ρ c (Proc.devRef .tc main_v16) : FVec Ideal S1024x16 .f32) := by
    unfold topCol
    after_reads_simp
  rw [h, W6_of m ρ c main_v16 (by decide), W5_v16]
  rfl

/-- The raw logits transposed. -/
def flipped (x : FVec Ideal S1024x16 .f32) : FVec Ideal S16x1024 .f32 :=
  transpose S16x1024 [1, 0] x transposes_S1024x16_S16x1024_1_0

theorem W7_v20 : (W7 m ρ c (Proc.devRef .tc main_v20) : FVec Ideal S16x1024 .f32) = flipped (logits m c) := by
  have h : (W7 m ρ c (Proc.devRef .tc main_v20) : FVec Ideal S16x1024 .f32)
      = flipped (W6 m ρ c (Proc.devRef .tc main_v2) : FVec Ideal S1024x16 .f32) := by
    unfold flipped
    after_reads_simp
  rw [h, W6_of m ρ c main_v2 (by decide), W5_of m ρ c main_v2 (by decide), W4_of m ρ c main_v2 (by decide), W3_v2]

theorem W9_v19 : (W9 m ρ c (Proc.devRef .tc main_v19) : FVec Ideal S1024x1 .f32) = topCol (probs m c) := by
  rw [W9_of m ρ c main_v19 (by decide), W8_of m ρ c main_v19 (by decide +kernel), W7_v19]

/-- The routing kernel's four operands. -/
theorem W9_v22 : (W9 m ρ c (Proc.devRef .tc main_v22) : FVec Ideal S1x1024 .f32)
    = shapeCast S1x1024 (topCol (probs m c)) shapeCasts_S1024x1_S1x1024 := by
  have h : (W9 m ρ c (Proc.devRef .tc main_v22) : FVec Ideal S1x1024 .f32)
      = shapeCast S1x1024 (W8 m ρ c (Proc.devRef .tc main_v19) : FVec Ideal S1024x1 .f32) shapeCasts_S1024x1_S1x1024 := by
    after_reads_simp
    rfl
  rw [h, W8_of m ρ c main_v19 (by decide +kernel), W7_v19]

theorem W8_v17 : (W8 m ρ c (Proc.devRef .tc main_v17) : IVec S1024 32) = Gate.best (probs m c) := by
  rw [W8_of m ρ c main_v17 (by decide +kernel), W7_of m ρ c main_v17 (by decide), W6_v17]

theorem W9_v23 : (W9 m ρ c (Proc.devRef .tc main_v23) : IVec S1x1024 32)
    = shapeCast S1x1024 (Gate.best (probs m c)) shapeCasts_S1024_S1x1024 := by
  have h : (W9 m ρ c (Proc.devRef .tc main_v23) : IVec S1x1024 32)
      = shapeCast S1x1024 (W8 m ρ c (Proc.devRef .tc main_v17) : IVec S1024 32) shapeCasts_S1024_S1x1024 := by
    after_reads_simp
    rfl
  rw [h, W8_v17]

theorem W9_v24 : (W9 m ρ c (Proc.devRef .tc main_v24) : IVec S1024x1 32)
    = shapeCast S1024x1 (Gate.best (probs m c)) shapeCasts_S1024_S1024x1 := by
  have h : (W9 m ρ c (Proc.devRef .tc main_v24) : IVec S1024x1 32)
      = shapeCast S1024x1 (W8 m ρ c (Proc.devRef .tc main_v17) : IVec S1024 32) shapeCasts_S1024_S1024x1 := by
    after_reads_simp
    rfl
  rw [h, W8_v17]

/-- The scaled logits survive to the end. -/
theorem W11_v5 : (W11 m ρ c (Proc.devRef .tc main_v5) : FVec Ideal S1024x16 .f32) = Gate.clipped (logits m c) := by
  rw [W11_of m ρ c main_v5 (by decide), W10_of m ρ c main_v5 (by decide +kernel), W9_of m ρ c main_v5 (by decide),
    W8_of m ρ c main_v5 (by decide +kernel), W7_of m ρ c main_v5 (by decide), W6_of m ρ c main_v5 (by decide), W5_v5]

/-- The combine array, token first. -/
def tokenFirst (x : FVec Ideal S16x96x1024 .f32) : FVec Ideal S1024x16x96 .f32 :=
  transpose S1024x16x96 [2, 0, 1] x transposes_S16x96x1024_S1024x16x96_2_0_1

/-- Where the combine array is positive. -/
def dispatch (x : FVec Ideal S1024x16x96 .f32) : IVec S1024x16x96 1 :=
  cmpf .ogt x (broadcastInDim S1024x16x96 ![] bcast_S_S1024x16x96 (constant (F := Ideal) S_ .f32 0x00000000#32))

theorem W11_v26 : (W11 m ρ c (Proc.devRef .tc main_v26) : FVec Ideal S1024x16x96 .f32)
    = tokenFirst (W10 m ρ c (Proc.devRef .tc main_v25) : FVec Ideal S16x96x1024 .f32) := by
  unfold tokenFirst
  after_reads_simp

theorem W11_v28 : (W11 m ρ c (Proc.devRef .tc main_v28) : IVec S1024x16x96 1)
    = dispatch (W11 m ρ c (Proc.devRef .tc main_v26) : FVec Ideal S1024x16x96 .f32) := by
  unfold dispatch
  after_reads_simp

/-- One number of the statistics kernel, as a scalar. -/
def scalar (x : FVec Ideal S1x1 .f32) : FVec Ideal S_ .f32 := shapeCast S_ x shapeCasts_S1x1_S_

theorem W11_v29 : (W11 m ρ c (Proc.devRef .tc main_v29) : FVec Ideal S_ .f32)
    = scalar (W10 m ρ c (Proc.devRef .tc main_v21_1) : FVec Ideal S1x1 .f32) := by
  unfold scalar
  after_reads_simp
  rfl

theorem W11_v30 : (W11 m ρ c (Proc.devRef .tc main_v30) : FVec Ideal S_ .f32)
    = scalar (W10 m ρ c (Proc.devRef .tc main_v21_2) : FVec Ideal S1x1 .f32) := by
  unfold scalar
  after_reads_simp
  rfl

theorem W11_v31 : (W11 m ρ c (Proc.devRef .tc main_v31) : FVec Ideal S_ .f32)
    = scalar (W10 m ρ c (Proc.devRef .tc main_v21_3) : FVec Ideal S1x1 .f32) := by
  unfold scalar
  after_reads_simp
  rfl

theorem W11_v32 : (W11 m ρ c (Proc.devRef .tc main_v32) : FVec Ideal S_ .f32)
    = scalar (W10 m ρ c (Proc.devRef .tc main_v21_0) : FVec Ideal S1x1 .f32) := by
  unfold scalar
  after_reads_simp
  rfl

/-- The statistics kernel's results and the routing kernel's, at the region exits. -/
theorem W10_v21 (w : Fin cfg1.W) (h9 : Pipeline.arrRef spec1 w ∉ hostOps2_W)
    (h10 : ∀ v : Fin cfg2.W, Pipeline.arrRef spec2 v = Pipeline.arrRef spec1 w → (cfg2.win v).isOut = false) :
    W10 m ρ c (Proc.devRef .tc (Pipeline.arrRef spec1 w)) = (dat1 (V7 m ρ) c).arrAt w cfg1.N := by
  rw [W10_of m ρ c _ h10, W9_of m ρ c _ h9, W8_arr]

end Cert.KernelHost
-- ==== Proof.StatsKernel.lean ====
/-
  What the statistics kernel computes from the transposed raw logits, read at an index.
-/
module

public import proofs.«01_k».proof.Proof.KernelHost

@[expose] public section

set_option maxRecDepth 8192

noncomputable section

namespace Cert.StatsKernel

open Idealize.ShloMosaic Idealize.ShloMosaic.TcCoe
open Cert.KernelIdeal Cert.KernelIdeal.Gen Cert.KernelHost

variable (V : (c : Dev nD) → (b : Ref sig .tc) → Buf (Elt Ideal) ((c : Thread nD τ).loc b)) (c : Dev nD)

theorem hz : (![0, 0] : Fin 2 → Nat) = fun _ => 0 := funext fun a => by fin_cases a <;> rfl

theorem idx0 : ∀ t : Fin cfg1.N, (cfg1.win 0).index t = ![0, 0] := by decide +kernel

/-- The statistics kernel's one input block is its whole operand. -/
theorem block_whole (t : Fin cfg1.N) :
    (iblk1 V c 0 t : FVec Ideal S16x1024 .f32) = (V c main_v20 : FVec Ideal S16x1024 .f32) := by
  have h : win1_0.index t = ![0, 0] := idx0 t
  funext y
  blk_simp [iblk1]
  blk_ext! <;> simp [h]

/-- A one by one array has one index. -/
theorem one_index (a b : S1x1.Idx) : a = b := by
  funext k
  match k with
  | ⟨0, _⟩ => exact Subsingleton.elim (α := Fin 1) _ _
  | ⟨1, _⟩ => exact Subsingleton.elim (α := Fin 1) _ _

theorem array1 : (dat1 V c).arrAt 1 cfg1.N = k1_pay4 (F := Ideal) (V c main_v20 : FVec Ideal S16x1024 .f32) := by
  refine (dat1 V c).arrAt_eq_of_covers 1 _ (by decide +kernel) fun t hf y => ?_
  blk_simp
  rw [after1_1]
  unfold out1_1
  rw [View.canon_unit_zero hz, View.ld_unit_zero hz, block_whole]
  exact congrArg _ (one_index _ _)

theorem array2 : (dat1 V c).arrAt 2 cfg1.N = k1_pay8 (F := Ideal) (V c main_v20 : FVec Ideal S16x1024 .f32) := by
  refine (dat1 V c).arrAt_eq_of_covers 2 _ (by decide +kernel) fun t hf y => ?_
  blk_simp
  rw [after1_2]
  unfold out1_2
  rw [View.canon_unit_zero hz, View.ld_unit_zero hz, block_whole]
  exact congrArg _ (one_index _ _)

/-- The balance loss of the statistics kernel, from its operand. -/
def auxPay (x : FVec Ideal S16x1024 .f32) : FVec Ideal S1x1 .f32 :=
  k1_pay2 (F := Ideal) (k1_pay5 (F := Ideal) x) (k1_pay6 (F := Ideal) x) (k1_pay7 (F := Ideal) x)

theorem array3 : (dat1 V c).arrAt 3 cfg1.N = auxPay (V c main_v20 : FVec Ideal S16x1024 .f32) := by
  refine (dat1 V c).arrAt_eq_of_covers 3 _ (by decide +kernel) fun t hf y => ?_
  blk_simp
  rw [after1_3]
  unfold out1_3 k1_pay20
  rw [View.canon_unit_zero hz, View.ld_unit_zero hz, block_whole]
  exact congrArg (auxPay _) (one_index _ _)

/-- The diversity loss of the statistics kernel, from the scaled logits. -/
def divPay (l : FVec Ideal S16x1024 .f32) : FVec Ideal S1x1 .f32 :=
  k1_pay1 (k1_pay19 (k1_pay9 l) (k1_pay10 l) (k1_pay11 l) (k1_pay12 l) (k1_pay13 l) (k1_pay14 l) (k1_pay15 l)
    (k1_pay16 l) (k1_pay17 l) (k1_pay18 l)) (Scalar.ofBits (F := Ideal) .f32 0x43700000#32)

theorem array4 : (dat1 V c).arrAt 4 cfg1.N
    = divPay (k1_pay5 (F := Ideal) (V c main_v20 : FVec Ideal S16x1024 .f32)) := by
  refine (dat1 V c).arrAt_eq_of_covers 4 _ (by decide +kernel) fun t hf y => ?_
  blk_simp
  rw [after1_4]
  unfold out1_4 k1_pay20
  rw [View.canon_unit_zero hz, View.ld_unit_zero hz, block_whole]
  exact congrArg (divPay _) (one_index _ _)

theorem swap (f : Fin 1024 → Fin 16 → EReal) : (∑ e : Fin 16, ∑ r : Fin 1024, f r e) = ∑ r, ∑ e, f r e := Finset.sum_comm

/-- The standard deviation of all raw logits. -/
def spreadOf (x : FVec Ideal S1024x16 .f32) : EReal :=
  Ideal.sqrt (Ideal.div (∑ r : Fin 1024, ∑ e : Fin 16,
    (x (ix2 r e) - Ideal.div (∑ r : Fin 1024, ∑ e : Fin 16, x (ix2 r e)) (Ideal.ofBits .f32 0x46800000#32))
    * (x (ix2 r e) - Ideal.div (∑ r : Fin 1024, ∑ e : Fin 16, x (ix2 r e)) (Ideal.ofBits .f32 0x46800000#32)))
    (Ideal.ofBits .f32 0x46800000#32))

theorem std_at (x : FVec Ideal S1024x16 .f32) (i : S1x1.Idx) : k1_pay4 (F := Ideal) (flipped x) i = spreadOf x := by
  unfold k1_pay4 k1_pay3 flipped spreadOf
  pointwise
  simp only [swap]
  rfl

/-- The kernel's scaled logits are the gate's, transposed. -/
theorem scaled_eq (x : FVec Ideal S1024x16 .f32) : k1_pay5 (F := Ideal) (flipped x) = flipped (Gate.clipped x) := by
  funext i
  obtain ⟨e, r, rfl⟩ : ∃ e r, i = ix2 e r := ⟨i 0, i 1, eq_ix2 i⟩
  unfold k1_pay5 k1_pay3 flipped
  pointwise [Gate.clipped_at, Gate.clip1, Gate.ten, Gate.minusTen, Gate.oneAndHalf]

theorem top_at (x : FVec Ideal S1024x16 .f32) (r : Fin 1024) :
    k1_pay6 (F := Ideal) (flipped x) (ix2 0 r) = Gate.top fun e => Gate.clipped x (ix2 r e) := by
  unfold k1_pay6
  rw [scaled_eq]
  unfold flipped
  pointwise
  rw [Gate.negInf]
  rfl

/-- The shifted exponential of a scaled logit. -/
theorem total_at (x : FVec Ideal S1024x16 .f32) (r : Fin 1024) :
    k1_pay7 (F := Ideal) (flipped x) (ix2 0 r) = ∑ e, Gate.shifted (Gate.clipped x) (ix2 r e) := by
  unfold k1_pay7
  rw [scaled_eq]
  pointwise [top_at, Gate.shifted_at]
  unfold flipped
  pointwise

/-- The mean of the squared logarithms of the rows' totals. -/
def zOf (l : FVec Ideal S1024x16 .f32) : EReal :=
  Ideal.div (∑ r : Fin 1024, Ideal.log (∑ e : Fin 16, Ideal.exp (l (ix2 r e)))
    * Ideal.log (∑ e : Fin 16, Ideal.exp (l (ix2 r e)))) (Ideal.ofBits .f32 0x44800000#32)

theorem log_total (x : FVec Ideal S1024x16 .f32) (r : Fin 1024) :
    (Gate.top fun e => Gate.clipped x (ix2 r e)) + Ideal.log (∑ e, Gate.shifted (Gate.clipped x) (ix2 r e))
      = Ideal.log (∑ e : Fin 16, Ideal.exp (Gate.clipped x (ix2 r e))) := by
  choose a ha using Gate.clipped_real x r
  simp only [Gate.shifted_at, ha]
  exact Gate.logSum a

theorem z_at (x : FVec Ideal S1024x16 .f32) (i : S1x1.Idx) :
    k1_pay8 (F := Ideal) (flipped x) i = zOf (Gate.clipped x) := by
  unfold k1_pay8 zOf
  pointwise [top_at, total_at, log_total]
  rw [Finset.univ_unique, Finset.sum_singleton]

/-- The balance loss. -/
def auxOf (p : FVec Ideal S1024x16 .f32) : EReal :=
  (∑ e : Fin 16, Ideal.div (∑ r : Fin 1024, if e = Gate.pick p r then (1 : EReal) else 0) (Ideal.ofBits .f32 0x44800000#32)
    * Ideal.div (∑ r : Fin 1024, p (ix2 r e)) (Ideal.ofBits .f32 0x44800000#32)) * Ideal.ofBits .f32 0x41800000#32

/-- The smallest of the columns at which the values are greatest, sixteen standing in elsewhere, is the first one. -/
theorem least_first {q : Fin 16 → EReal} {k : Fin 16} (h : Gate.IsFirst q k) :
    Finset.fold IntOp.minsi 2147483647#32 (fun e => if q e = q k then BitVec.ofNat 32 e.val else 16#32) Finset.univ
      = BitVec.ofNat 32 k.val := by
  have hr : ∀ {x y z : BitVec 32}, x.toInt ≤ (IntOp.minsi y z).toInt ↔ x.toInt ≤ y.toInt ∧ x.toInt ≤ z.toInt := by
    intro x y z
    unfold IntOp.minsi
    split <;> rename_i g <;> simp only [BitVec.slt_iff_toInt_lt, BitVec.sle_iff_toInt_le] at g <;> omega
  have hk : ∀ e : Fin 16, (BitVec.ofNat 32 e.val).toInt = (e.val : Int) := by decide +kernel
  have key := fun c : BitVec 32 => Finset.fold_op_rel_iff_and (op := IntOp.minsi) (r := fun x y : BitVec 32 => x.toInt ≤ y.toInt)
    hr (b := 2147483647#32) (s := Finset.univ)
    (f := fun e : Fin 16 => if q e = q k then BitVec.ofNat 32 e.val else 16#32) (c := c)
  apply BitVec.eq_of_toInt_eq
  apply le_antisymm
  · have := ((key _).1 le_rfl).2 k (Finset.mem_univ k)
    simpa using this
  · refine (key _).2 ⟨?_, fun e _ => ?_⟩
    · rw [hk]; show (k.val : Int) ≤ 2147483647; omega
    · rw [hk]

      split
      · rename_i g
        rw [hk]
        rcases h e with g' | ⟨_, g'⟩
        · exact absurd g (ne_of_lt g')
        · exact Int.ofNat_le.2 g'
      · show (k.val : Int) ≤ 16; omega

/-- A column's indicator as the kernel reads it. -/
theorem one_hot (a k : Fin 16) : FloatOps.sitofp (F := Ideal) FTy.f32
    (BitVec.setWidth 32 (IntOp.cmpi .eq (BitVec.ofNat 32 a.val) (BitVec.ofNat 32 k.val))) = if a = k then (1 : EReal) else 0 := by
  have h : (BitVec.setWidth 32 (IntOp.cmpi .eq (BitVec.ofNat 32 a.val) (BitVec.ofNat 32 k.val))) = if a = k then 1#32 else 0#32 := by
    revert a k; decide +kernel
  rw [h]
  show (((if a = k then 1#32 else 0#32 : BitVec 32).toInt : ℝ) : EReal) = _
  split <;> simp

theorem prob_eq (l : FVec Ideal S1024x16 .f32) (e : Fin 16) (r : Fin 1024) :
    Ideal.div (Ideal.exp (flipped l (ix2 e r) - Gate.top fun e => l (ix2 r e))) (∑ e, Gate.shifted l (ix2 r e))
      = Gate.softmax l (ix2 r e) := by
  rw [Gate.softmax_at, Gate.shifted_at]
  congr 3
  unfold flipped
  pointwise

theorem aux_at (x : FVec Ideal S1024x16 .f32) (i : S1x1.Idx) :
    auxPay (flipped x) i = auxOf (Gate.softmax (Gate.clipped x)) := by
  have hp : Gate.Real2 (Gate.softmax (Gate.clipped x)) := Gate.softmax_real (Gate.clipped_real x)
  have hm : ∀ r, Finset.fold max (Ideal.ofBits FTy.f32 4286578688#32) (fun e => Gate.softmax (Gate.clipped x) (ix2 r e)) Finset.univ
      = Gate.softmax (Gate.clipped x) (ix2 r (Gate.pick (Gate.softmax (Gate.clipped x)) r)) := fun r => by
    rw [Gate.negInf, Gate.fold_max_eq_sup]
    exact (Gate.pick_spec hp r).1.top_eq
  unfold auxPay auxOf k1_pay2
  rw [scaled_eq]
  pointwise [top_at, total_at]
  simp only [prob_eq, hm]
  have hl := fun r => least_first (Gate.pick_spec hp r).1
  simp only [hl, one_hot, Finset.univ_unique, Finset.sum_singleton]

end Cert.StatsKernel
-- ==== Proof.DivKernel.lean ====
/-
  The statistics kernel's diversity loss, read at an index.
-/
module

public import proofs.«01_k».proof.Proof.StatsKernel

@[expose] public section

set_option maxRecDepth 8192

noncomputable section

namespace Cert.DivKernel

open Idealize.ShloMosaic Idealize.ShloMosaic.TcCoe
open Cert.KernelIdeal Cert.KernelIdeal.Gen

/-- The inner products of the sixteen rows of `u` with its row `k`. -/
def rowDot (u : FVec Ideal S16x1024 .f32) (k : Nat) (h : S16x1024.Slices ![k, 0] S1x1024) : FVec Ideal S16x1 .f32 :=
  shapeCast S16x1 (multiReduction .add [1] S16
    (mulf u (broadcastTo S16x1024 (extractStridedSlice S1x1024 ![k, 0] u h) broadcasts_S1x1024_S16x1024))
    0x00000000#32 reduces_S16x1024_S16 (.inl rfl) rfl) shapeCasts_S16_S16x1

theorem rowDot_at (u : FVec Ideal S16x1024 .f32) (k : Fin 16) (h : S16x1024.Slices ![k.val, 0] S1x1024) (a : Fin 16) :
    rowDot u k.val h (ix2 a 0) = ∑ r : Fin 1024, u (ix2 a r) * u (ix2 k r) := by
  unfold rowDot
  pointwise

/-- All inner products of the rows of `u`, laid out by the sixteen columns. -/
def gram (u : FVec Ideal S16x1024 .f32) : FVec Ideal S16x16 .f32 :=
  concatenate S16x16 1 [⟨S16x1, rowDot u 0 slices_S16x1024_o0_0_S1x1024⟩, ⟨S16x1, rowDot u 1 slices_S16x1024_o1_0_S1x1024⟩,
    ⟨S16x1, rowDot u 2 slices_S16x1024_o2_0_S1x1024⟩, ⟨S16x1, rowDot u 3 slices_S16x1024_o3_0_S1x1024⟩,
    ⟨S16x1, rowDot u 4 slices_S16x1024_o4_0_S1x1024⟩, ⟨S16x1, rowDot u 5 slices_S16x1024_o5_0_S1x1024⟩,
    ⟨S16x1, rowDot u 6 slices_S16x1024_o6_0_S1x1024⟩, ⟨S16x1, rowDot u 7 slices_S16x1024_o7_0_S1x1024⟩,
    ⟨S16x1, rowDot u 8 slices_S16x1024_o8_0_S1x1024⟩, ⟨S16x1, rowDot u 9 slices_S16x1024_o9_0_S1x1024⟩,
    ⟨S16x1, rowDot u 10 slices_S16x1024_o10_0_S1x1024⟩, ⟨S16x1, rowDot u 11 slices_S16x1024_o11_0_S1x1024⟩,
    ⟨S16x1, rowDot u 12 slices_S16x1024_o12_0_S1x1024⟩, ⟨S16x1, rowDot u 13 slices_S16x1024_o13_0_S1x1024⟩,
    ⟨S16x1, rowDot u 14 slices_S16x1024_o14_0_S1x1024⟩, ⟨S16x1, rowDot u 15 slices_S16x1024_o15_0_S1x1024⟩]
    concatenates_S16x1_S16x1_S16x1_S16x1_S16x1_S16x1_S16x1_S16x1_S16x1_S16x1_S16x1_S16x1_S16x1_S16x1_S16x1_S16x1_S16x16_d1

/-- One column's entry, wherever the piece's index is the whole's in the first coordinate. -/
theorem piece (u : FVec Ideal S16x1024 .f32) (k : Nat) (h : S16x1024.Slices ![k, 0] S1x1024) (i : S16x1.Idx) (a b : Fin 16)
    (h0 : (i 0).val = a.val) (h1 : b.val = k) : rowDot u k h i = ∑ r : Fin 1024, u (ix2 a r) * u (ix2 b r) := by
  subst h1
  have hi : i = ix2 a 0 := by
    rw [eq_ix2 i]
    exact congrArg₂ ix2 (Fin.ext h0) (Subsingleton.elim (α := Fin 1) _ _)
  rw [hi, rowDot_at]

theorem gram_at (u : FVec Ideal S16x1024 .f32) (a b : Fin 16) :
    gram u (ix2 a b) = ∑ r : Fin 1024, u (ix2 a r) * u (ix2 b r) := by
  unfold gram
  concat_tiles i h
  all_goals exact piece u _ _ i a b h0 h

/-- The loss of a matrix of inner products: the mean of the squares off its diagonal. -/
def offDiagonal (x : FVec Ideal S16x16 .f32) : FVec Ideal S1x1 .f32 :=
  let kept : FVec Ideal S16x16 .f32 := select (cmpi .eq (iota .tc S16x16 32 [0] iota_S16x16_d0_w32) (iota .tc S16x16 32 [1] iota_S16x16_d1_w32))
    (broadcast S16x16 (Scalar.ofBits (F := Ideal) .f32 0x00000000#32)) x
  let all : FVec Ideal S1 .f32 := multiReduction .add [1, 2] S1 (shapeCast S1x16x16 (mulf kept kept) shapeCasts_S16x16_S1x16x16)
    0x00000000#32 reduces_S1x16x16_S1 (.inl rfl) rfl
  k1_pay1 (extractAt ![0, 0, 0] (shapeCast S1x1x1 all shapeCasts_S1_S1x1x1) inpos_S1x1x1_p0_0_0)
    (Scalar.ofBits (F := Ideal) .f32 0x43700000#32)

theorem divPay_eq (l : FVec Ideal S16x1024 .f32) : StatsKernel.divPay l = offDiagonal (gram (k1_pay9 l)) := rfl

/-- A column's norm, kept away from zero. -/
def norm (l : FVec Ideal S1024x16 .f32) (e : Fin 16) : EReal :=
  max (Ideal.sqrt (∑ r : Fin 1024, l (ix2 r e) * l (ix2 r e))) (Ideal.ofBits .f32 0x2B8CBCCC#32)

/-- The inner product of two normalised columns. -/
def cosine (l : FVec Ideal S1024x16 .f32) (a b : Fin 16) : EReal :=
  ∑ r : Fin 1024, Ideal.div (l (ix2 r a)) (norm l a) * Ideal.div (l (ix2 r b)) (norm l b)

/-- The diversity loss. -/
def divOf (l : FVec Ideal S1024x16 .f32) : EReal :=
  Ideal.div (∑ a : Fin 16, ∑ b : Fin 16, (if a = b then 0 else cosine l a b) * (if a = b then 0 else cosine l a b))
    (Ideal.ofBits .f32 0x43700000#32)

/-- A choice by the equality of two columns. -/
theorem on_diagonal (a b : Fin 16) (x y : EReal) :
    Scalar.select (IntOp.cmpi .eq (BitVec.ofNat 32 a.val) (BitVec.ofNat 32 b.val)) x y = if a = b then x else y := by
  have h : IntOp.cmpi .eq (BitVec.ofNat 32 a.val) (BitVec.ofNat 32 b.val) = BitVec.ofBool (decide (a = b)) := by
    revert a b; decide +kernel
  rw [h]
  by_cases g : a = b <;> simp [g, Scalar.select]

theorem unit_at (l : FVec Ideal S1024x16 .f32) (e : Fin 16) (r : Fin 1024) :
    k1_pay9 (F := Ideal) (KernelHost.flipped l) (ix2 e r) = Ideal.div (l (ix2 r e)) (norm l e) := by
  unfold k1_pay9 KernelHost.flipped norm
  pointwise

theorem div_at (x : FVec Ideal S1024x16 .f32) (i : S1x1.Idx) :
    StatsKernel.divPay (k1_pay5 (F := Ideal) (KernelHost.flipped x)) i = divOf (Gate.clipped x) := by
  rw [StatsKernel.scaled_eq, divPay_eq]
  unfold offDiagonal divOf cosine k1_pay1
  pointwise [gram_at, unit_at]
  congr 1
  refine Finset.sum_congr rfl fun a _ => Finset.sum_congr rfl fun b _ => ?_
  simp only [on_diagonal]
  split <;> simp

end Cert.DivKernel
-- ==== Proof.RefStats.lean ====
/-
  The reference's logits and losses, read at an index and set equal to what the kernel computes.
-/
module

public import proofs.«01_k».proof.Proof.RefStages
public import proofs.«01_k».proof.Proof.DivKernel

@[expose] public section

set_option maxRecDepth 8192

noncomputable section

namespace Cert.RefStats

open Idealize.ShloMosaic Idealize.ShloMosaic.TcCoe
open Cert.ReferenceIdeal Cert.ReferenceIdeal.Gen Cert.RefStages

theorem word_196 : Ideal.ofBits .f32 0x43440000#32 = ((196 : ℝ) : EReal) := by
  simp [Ideal.ofBits, Ideal.ieee, -EReal.coe_mul]; norm_num

/-- The mean image is the pooled one. -/
theorem mean_eq (x : FVec Ideal S1024x384x14x14 .f32) : mean x = Pool.pooled (transpose KernelIdeal.S14x14x1024x384 [2, 3, 0, 1] x
    KernelIdeal.Gen.transposes_S1024x384x14x14_S14x14x1024x384_2_3_0_1) := by
  funext i
  obtain ⟨n, c, rfl⟩ : ∃ n c, i = ix2 n c := ⟨i 0, i 1, eq_ix2 i⟩
  unfold mean Pool.pooled zero
  pointwise
  rw [word_196, Ideal.div_coe (by norm_num), one_div]

theorem raw_eq (x : FVec Ideal S1024x384x14x14 .f32) (w : FVec Ideal S384x16 .f32) : raw x w = KernelHost.raw x w := by
  unfold raw KernelHost.raw
  rw [mean_eq]
  rfl

theorem word_16384 : Ideal.ofBits .f32 0x46800000#32 = ((16384 : ℝ) : EReal) := by
  simp [Ideal.ofBits, Ideal.ieee, -EReal.coe_mul]; norm_num

theorem count_at (i : S_.Idx) : RefStages.count i = ((16384 : ℝ) : EReal) := by
  unfold RefStages.count
  pointwise [word_16384]
  show ((16384 : ℝ) : EReal) - (((0#32 : BitVec 32).toInt : ℝ) : EReal) = _
  simp

theorem deviation_at (x : FVec Ideal S1024x16 .f32) (i : S_.Idx) : deviation x i = StatsKernel.spreadOf x := by
  unfold deviation StatsKernel.spreadOf centred zero
  pointwise [count_at, word_16384]
  rw [if_pos (EReal.coe_pos.2 (by norm_num))]

theorem zLoss_at (l : FVec Ideal S1024x16 .f32) (i : S_.Idx) : zLoss l i = StatsKernel.zOf l := by
  unfold zLoss StatsKernel.zOf zero
  pointwise

theorem normed_at (l : FVec Ideal S1024x16 .f32) (r : Fin 1024) (e : Fin 16) :
    normed l (ix2 r e) = Ideal.div (l (ix2 r e)) (DivKernel.norm l e) := by
  unfold normed DivKernel.norm zero
  pointwise

theorem products_at (n : FVec Ideal S1024x16 .f32) (a b : Fin 16) :
    products n (ix2 a b) = ∑ r : Fin 1024, n (ix2 r a) * n (ix2 r b) := by
  unfold products
  pointwise

/-- A bit read as a number. -/
theorem bit_at (p : Prop) [Decidable p] (b : BitVec 1) (h : b = if p then 1#1 else 0#1) :
    FloatOps.uitofp (F := Ideal) FTy.f32 b = if p then (1 : EReal) else 0 := by
  rw [h]
  show (((if p then 1#1 else 0#1 : BitVec 1).toNat : ℝ) : EReal) = _
  split <;> simp

theorem offEye_at (a b : Fin 16) : offEye (ix2 a b) = if a = b then (0 : EReal) else 1 := by
  unfold offEye
  pointwise
  rw [bit_at (a = b) _ (by revert a b; decide +kernel)]
  split
  · exact EReal.sub_self (by decide) (by decide)
  · exact sub_zero _

theorem divLoss_at (l : FVec Ideal S1024x16 .f32) (i : S_.Idx) : divLoss l i = DivKernel.divOf l := by
  unfold divLoss DivKernel.divOf DivKernel.cosine zero
  pointwise [products_at, normed_at, offEye_at]
  simp only [mul_ite, mul_zero, mul_one, ite_mul, zero_mul]

theorem oneHot_at (k : IVec S1024 32) (r : Fin 1024) (e f : Fin 16) (hk : k (ix1 r) = BitVec.ofNat 32 f.val) :
    oneHot k (ix2 r e) = if e = f then (1 : EReal) else 0 := by
  unfold oneHot
  pointwise [hk]
  clear hk
  exact bit_at (e = f) _ (by revert e f; decide +kernel)

theorem auxLoss_at (p : FVec Ideal S1024x16 .f32) (hp : Gate.Real2 p) (i : S_.Idx) :
    auxLoss (oneHot (Gate.best p)) p i = StatsKernel.auxOf p := by
  have h := fun r e => oneHot_at (Gate.best p) r e (Gate.pick p r) (Gate.pick_spec hp r).2
  unfold auxLoss StatsKernel.auxOf colMean zero
  pointwise [h]

end Cert.RefStats
-- ==== Proof.RefRoute.lean ====
/-
  The reference's line in stages, from the arg-max to the two routing tensors.
-/
module

public import proofs.«01_k».proof.Proof.RefStages

@[expose] public section

set_option maxRecDepth 65536

noncomputable section

namespace Cert.RefRoute

open Idealize.ShloMosaic Idealize.ShloMosaic.TcCoe Idealize.ShloMosaic.StableHlo
open Cert.ReferenceIdeal Cert.ReferenceIdeal.Gen Cert.RefRun Cert.RefStages

/-- A vector of row numbers as a column of indices, a negative number counted from the end. -/
def wrap (x : IVec S1024 32) : IVec S1024x1 32 :=
  broadcastInDim S1024x1 ![0] bcast_S1024_S1024x1_0
    (select (cmpi .slt x (broadcastInDim S1024 ![] bcast_S_S1024 (constantI S_ 32 0#32)))
      (addi x (broadcastInDim S1024 ![] bcast_S_S1024 (constantI S_ 32 1024#32))) x)

/-- The column numbers as indices of the take along the rows, a negative number counted from the end. -/
def wrapCol (k : IVec S1024 32) : IVec S1024x1x1 32 :=
  let v : IVec S1024x1 32 := broadcastInDim S1024x1 ![0] bcast_S1024_S1024x1_0 k
  shapeCast S1024x1x1 (select (cmpi .slt v (broadcastInDim S1024x1 ![] bcast_S_S1024x1 (constantI S_ 32 0#32)))
    (addi v (broadcastInDim S1024x1 ![] bcast_S_S1024x1 (constantI S_ 32 16#32))) v) shapeCasts_S1024x1_S1024x1x1

/-- Whether each index is a column's number. -/
def inside (v : IVec S1024x1x1 32) : IVec S1024x1 1 :=
  Host.reduce IntOp.andi
    (andi (cmpi .sge v (broadcastInDim S1024x1x1 ![] bcast_S_S1024x1x1 (constantI S_ 32 0#32)))
      (cmpi .sle v (broadcastInDim S1024x1x1 ![0, 1, 2] bcast_S1x1x1_S1024x1x1_0_1_2
        (broadcastInDim S1x1x1 ![2] bcast_S1_S1x1x1_2 (constantI S1 32 15#32)))))
    (constantI S_ 1 1#1) reducesTo_S1024x1x1_S1024x1_d2 h_S_

/-- Each row's entry in its chosen column. -/
def chosen (p : FVec Ideal S1024x16 .f32) (k : IVec S1024 32) : FVec Ideal S1024 .f32 :=
  shapeCast S1024 (select (inside (wrapCol k))
    (Host.gather gather_S1024x16_S1024x1x1_S1024x1_n_1_0_0_1_2_11 p (wrapCol k))
    (broadcastInDim S1024x1 ![] bcast_S_S1024x1 (constant (F := Ideal) S_ .f32 0x7FC00000#32))) shapeCasts_S1024x1_S1024

/-- The rows in order of their entries, the greatest first. -/
def sorted (P : FVec Ideal S1024 .f32) : IVec S1024 32 :=
  (Host.sort2 S1024 0 (comparator_f32_i32_d0 (F := Ideal)) (Host.negf (F := Ideal) P) (iotaInDim S1024 32 0)).2

/-- The rows of a matrix taken by a vector of row numbers. -/
def rows {α : Type} (x : S1024x16.Idx → α) (i : IVec S1024 32) : S1024x16.Idx → α :=
  Host.gather gather_S1024x16_S1024x1_S1024x16_1_0_n_n_0_1_116 x (wrap i)

/-- How many rows up to each have a one in each column, less one. -/
def position (h : FVec Ideal S1024x16 .f32) : FVec Ideal S1024x16 .f32 :=
  subf (Host.reduceWindowAdd (F := Ideal) ![1024, 1] ![1, 1] ![1023, 0] ![0, 0] h (broadcastInDim S_ ![] bcast_S_S_ zero)
      reduceWindows_S1024x16_S1024x16_w1024s1p1023_0_w1s1p0_0 h_S_)
    (broadcastInDim S1024x16 ![] bcast_S_S1024x16 (constant (F := Ideal) S_ .f32 0x3F800000#32))

/-- The ones that a column has room for. -/
def kept (h q : FVec Ideal S1024x16 .f32) : FVec Ideal S1024x16 .f32 :=
  mulf h (uitofp .f32 (cmpf .olt q (broadcastInDim S1024x16 ![] bcast_S_S1024x16 (constant (F := Ideal) S_ .f32 0x42C00000#32))))

/-- The inverse of a permutation of the rows. -/
def inverse (i : IVec S1024 32) : IVec S1024 32 :=
  Host.scatter scatter_S1024_S1024x1_S1024_n_0_0_1 (fun _ b => b)
    (broadcastInDim S1024 ![] bcast_S_S1024 (constantI S_ 32 0#32)) (wrap i) (iotaInDim S1024 32 0)

/-- The chosen entries of the rows that were kept. -/
def weight (P : FVec Ideal S1024 .f32) (h : FVec Ideal S1024x16 .f32) : FVec Ideal S1024 .f32 :=
  mulf P (Host.reduceAdd (F := Ideal) h zero reducesTo_S1024x16_S1024_d1 h_S_)

/-- The positions held between nought and ninety-five, as words. -/
def slot (q : FVec Ideal S1024x16 .f32) : IVec S1024x16 32 :=
  fptosi 32 (minimumf (broadcastInDim S1024x16 ![] bcast_S_S1024x16 (sitofp (F := Ideal) .f32 (constantI S_ 32 95#32)))
    (maximumf (broadcastInDim S1024x16 ![] bcast_S_S1024x16 (sitofp (F := Ideal) .f32 (constantI S_ 32 0#32))) q))

/-- The one-hot rows of the positions. -/
def slotHot (s : IVec S1024x16 32) : FVec Ideal S1024x16x96 .f32 :=
  uitofp .f32 (cmpi .eq
    (broadcastInDim S1024x16x96 ![0, 1, 2] bcast_S1024x16x1_S1024x16x96_0_1_2
      (broadcastInDim S1024x16x1 ![0, 1] bcast_S1024x16_S1024x16x1_0_1 s))
    (broadcastInDim S1024x16x96 ![0, 1, 2] bcast_S1x1x96_S1024x16x96_0_1_2 (iotaInDim S1x1x96 32 2)))

/-- The combining tensor, from the kept rows' entries, the kept ones and the positions. -/
def combine (w : FVec Ideal S1024 .f32) (h : FVec Ideal S1024x16 .f32) (s : IVec S1024x16 32) : FVec Ideal S1024x16x96 .f32 :=
  mulf (broadcastInDim S1024x16x96 ![0, 1, 2] bcast_S1024x16x1_S1024x16x96_0_1_2
    (mulf (broadcastInDim S1024x16x1 ![0, 1, 2] bcast_S1024x1x1_S1024x16x1_0_1_2
        (broadcastInDim S1024x1x1 ![0] bcast_S1024_S1024x1x1_0 w))
      (broadcastInDim S1024x16x1 ![0, 1] bcast_S1024x16_S1024x16x1_0_1 h))) (slotHot s)

/-- Where the combining tensor is greater than zero. -/
def dispatch (x : FVec Ideal S1024x16x96 .f32) : IVec S1024x16x96 1 :=
  cmpf .ogt x (broadcastInDim S1024x16x96 ![] bcast_S_S1024x16x96 zero)

variable (V : Valuation τ sig (Elt Ideal))

seal Host.reduce Host.gather shapeCast broadcastInDim select in
theorem final_v47 : (final V main_v47 : FVec Ideal S1024 .f32)
    = chosen (final V main_v43 : FVec Ideal S1024x16 .f32) (final V main_v44 : IVec S1024 32) := by
  unfold final ops line chosen inside wrapCol; after_reads_simp <;> rfl

theorem final_v59 : (final V main_v59 : IVec S1024 32) = sorted (final V main_v47 : FVec Ideal S1024 .f32) := by
  unfold final ops line sorted; after_reads_simp <;> rfl

theorem final_v66 : (final V main_v66 : FVec Ideal S1024x16 .f32)
    = rows (final V main_v48 : FVec Ideal S1024x16 .f32) (final V main_v59 : IVec S1024 32) := by
  unfold final ops line rows wrap; after_reads_simp <;> rfl

seal Host.reduceWindowAdd broadcastInDim subf in
theorem final_v69 : (final V main_v69 : FVec Ideal S1024x16 .f32) = position (final V main_v66 : FVec Ideal S1024x16 .f32) := by
  unfold final ops line position zero; after_reads_simp <;> rfl

theorem final_v73 : (final V main_v73 : FVec Ideal S1024x16 .f32)
    = kept (final V main_v66 : FVec Ideal S1024x16 .f32) (final V main_v69 : FVec Ideal S1024x16 .f32) := by
  unfold final ops line kept; after_reads_simp <;> rfl

theorem final_v82 : (final V main_v82 : IVec S1024 32) = inverse (final V main_v59 : IVec S1024 32) := by
  unfold final ops line inverse wrap; after_reads_simp <;> rfl

theorem final_v89 : (final V main_v89 : FVec Ideal S1024x16 .f32)
    = rows (final V main_v73 : FVec Ideal S1024x16 .f32) (final V main_v82 : IVec S1024 32) := by
  unfold final ops line rows wrap; after_reads_simp <;> rfl

theorem final_v91 : (final V main_v91 : FVec Ideal S1024 .f32)
    = weight (final V main_v47 : FVec Ideal S1024 .f32) (final V main_v89 : FVec Ideal S1024x16 .f32) := by
  unfold final ops line weight zero; after_reads_simp <;> rfl

theorem final_v100 : (final V main_v100 : IVec S1024x16 32)
    = rows (slot (final V main_v69 : FVec Ideal S1024x16 .f32)) (final V main_v82 : IVec S1024 32) := by
  unfold final ops line rows wrap slot; after_reads_simp <;> rfl

seal broadcastInDim mulf uitofp cmpi Host.gather in
theorem final_v107 : (final V main_v107 : FVec Ideal S1024x16x96 .f32)
    = combine (final V main_v91 : FVec Ideal S1024 .f32) (final V main_v89 : FVec Ideal S1024x16 .f32) (final V main_v100 : IVec S1024x16 32) := by
  unfold final ops line combine slotHot; after_reads_simp <;> rfl

theorem final_v109 : (final V main_v109 : IVec S1024x16x96 1) = dispatch (final V main_v107 : FVec Ideal S1024x16x96 .f32) := by
  unfold final ops line dispatch zero; after_reads_simp <;> rfl

end Cert.RefRoute
-- ==== Proof.Order.lean ====
/-
  Sorting positions by a key. A stable sort by the keys alone, from the positions in order, is the sort by the key
  first and the position second; so the place to which it sends a position is known by which positions stand ahead.
  Nothing here names a program.
-/
module

public import Idealize.ShloMosaic.PureOps.Ideal
public import Idealize.ShloMosaic.Lib.SortFacts
public import Mathlib.Data.Fintype.EquivFin

@[expose] public section

namespace Cert.Order

open Idealize.ShloMosaic

variable {n : Nat} {κ : Type} [LinearOrder κ] (key : Fin n → κ)

/-- Position `a` stands ahead of position `b`: its key is less, or the keys are equal and it comes earlier. -/
def Ahead (a b : Fin n) : Prop := key a < key b ∨ (key a = key b ∧ a < b)

instance (a b : Fin n) : Decidable (Ahead key a b) := inferInstanceAs (Decidable (_ ∨ _))

variable {key}

theorem Ahead.asymm {a b : Fin n} (h : Ahead key a b) : ¬ Ahead key b a := by
  rintro (g | ⟨g, g'⟩) <;> rcases h with h | ⟨h, h'⟩
  · exact lt_asymm g h
  · exact absurd g (by rw [h]; exact lt_irrefl _)
  · exact absurd h (by rw [g]; exact lt_irrefl _)
  · exact lt_asymm g' h'

theorem Ahead.trans {a b c : Fin n} (h : Ahead key a b) (g : Ahead key b c) : Ahead key a c := by
  rcases h with h | ⟨h, h'⟩ <;> rcases g with g | ⟨g, g'⟩
  · exact Or.inl (h.trans g)
  · exact Or.inl (g ▸ h)
  · exact Or.inl (h ▸ g)
  · exact Or.inr ⟨h.trans g, h'.trans g'⟩

theorem Ahead.total {a b : Fin n} (h : a ≠ b) : Ahead key a b ∨ Ahead key b a := by
  rcases lt_trichotomy (key a) (key b) with g | g | g
  · exact Or.inl (Or.inl g)
  · rcases lt_or_gt_of_ne h with t | t
    · exact Or.inl (Or.inr ⟨g, t⟩)
    · exact Or.inr (Or.inr ⟨g.symm, t⟩)
  · exact Or.inr (Or.inl g)

theorem Ahead.ne {a b : Fin n} (h : Ahead key a b) : a ≠ b := by rintro rfl; exact h.asymm h

/-- What does not stand behind a position that does not stand behind a third does not stand behind the third. -/
theorem Ahead.not_trans {a b c : Fin n} (h : ¬ Ahead key a b) (g : ¬ Ahead key b c) : ¬ Ahead key a c := by
  intro t
  rcases eq_or_ne a b with rfl | hab
  · exact g t
  · exact g (((Ahead.total hab).resolve_left h).trans t)

variable (key)

/-- The sort of a list of positions in order, by the keys alone, is the sort by key and position. -/
theorem stableSort_eq (l : List (Fin n)) (hl : l.Pairwise (· < ·)) :
    stableSort (fun a b => decide (key a < key b)) l = stableSort (fun a b => decide (Ahead key a b)) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.1 hb)
    exact decide_eq_decide.2 ⟨Or.inl, fun h => h.resolve_right fun g => lt_asymm g.2 hab⟩

/-- The sorted order of the positions. -/
def order : Fin n → Fin n := sortedFrom fun a b => decide (Ahead key a b)

theorem sortedFrom_congr {B C : Fin n → Fin n → Bool} (h : sortPositions n B = sortPositions n C) : sortedFrom B = sortedFrom C := by
  funext i
  unfold sortedFrom
  exact List.getElem_of_eq h _

/-- The stable sort by the keys alone takes the positions in the sorted order. -/
theorem sortedFrom_eq : sortedFrom (fun a b : Fin n => decide (key a < key b)) = order key :=
  sortedFrom_congr (stableSort_eq key _ (List.pairwise_lt_finRange n))

/-- An earlier place of the sorted order holds a position that stands ahead. -/
theorem ahead_of_lt {i j : Fin n} (h : i < j) : Ahead key (order key i) (order key j) := by
  have hno := sortedFrom_noInversion (fun a b => decide (Ahead key a b)) (fun a b => decide (Ahead key a b))
    (fun a b t => decide_eq_false (of_decide_eq_true t).asymm) (fun a b t => t)
    (fun a b c t u => decide_eq_false (Ahead.not_trans (of_decide_eq_false t) (of_decide_eq_false u))) i j h
  have hne : order key i ≠ order key j := fun e => (ne_of_lt h) (sortedFrom_injective _ e)
  exact (Ahead.total hne).resolve_right (of_decide_eq_false hno)

/-- The sorted order is one to one and onto. -/
noncomputable def orderEquiv : Fin n ≃ Fin n :=
  Equiv.ofBijective (order key) ⟨sortedFrom_injective _, sortedFrom_surjective _⟩

theorem orderEquiv_apply (i : Fin n) : orderEquiv key i = order key i := rfl

/-- The place of a position in the sorted order. -/
noncomputable def place (r : Fin n) : Fin n := (orderEquiv key).symm r

theorem order_place (r : Fin n) : order key (place key r) = r := (orderEquiv key).apply_symm_apply r

theorem place_order (i : Fin n) : place key (order key i) = i := (orderEquiv key).symm_apply_apply i

/-- A position's place comes first exactly when it stands ahead. -/
theorem place_lt {a b : Fin n} : place key a < place key b ↔ Ahead key a b := by
  constructor
  · intro h
    have := ahead_of_lt key h
    rwa [order_place, order_place] at this
  · intro h
    by_contra hn
    rcases lt_or_eq_of_le (not_lt.1 hn) with g | g
    · have := ahead_of_lt key g
      rw [order_place, order_place] at this
      exact this.asymm h
    · exact h.ne (by rw [← order_place key a, ← g, order_place])

/-- Among the positions that satisfy `p`, those up to `r`'s place in the sorted order number one more than those
    ahead of `r`, when `r` satisfies `p`; the same, when it does not. -/
theorem card_upto (p : Fin n → Prop) [DecidablePred p] (r : Fin n) :
    (Finset.univ.filter fun i => i ≤ place key r ∧ p (order key i)).card
      = (Finset.univ.filter fun j => p j ∧ Ahead key j r).card + if p r then 1 else 0 := by
  have himg : (Finset.univ.filter fun i => i ≤ place key r ∧ p (order key i)).card
      = (Finset.univ.filter fun j => p j ∧ (j = r ∨ Ahead key j r)).card := by
    refine Finset.card_bij (fun i _ => order key i) (fun i hi => ?_) (fun i _ j _ e => sortedFrom_injective _ e) fun j hj => ?_
    · obtain ⟨h, hp⟩ := (Finset.mem_filter.1 hi).2
      refine Finset.mem_filter.2 ⟨Finset.mem_univ _, hp, ?_⟩
      rcases lt_or_eq_of_le h with g | g
      · right
        rw [← place_lt, place_order]
        exact g
      · left
        rw [g, order_place]
    · obtain ⟨hp, h⟩ := (Finset.mem_filter.1 hj).2
      refine ⟨place key j, Finset.mem_filter.2 ⟨Finset.mem_univ _, ?_, by rw [order_place]; exact hp⟩, order_place key j⟩
      rcases h with rfl | h
      · exact le_rfl
      · exact ((place_lt key).2 h).le
  rw [himg]
  have hsplit : (Finset.univ.filter fun j => p j ∧ (j = r ∨ Ahead key j r))
      = (Finset.univ.filter fun j => p j ∧ Ahead key j r) ∪ if p r then {r} else ∅ := by
    ext j
    simp only [Finset.mem_union, Finset.mem_filter, Finset.mem_univ, true_and]
    by_cases h : p r
    · simp only [h, if_true, Finset.mem_singleton]
      constructor
      · rintro ⟨a, b | b⟩
        · exact Or.inr b
        · exact Or.inl ⟨a, b⟩
      · rintro (⟨a, b⟩ | b)
        · exact ⟨a, Or.inr b⟩
        · exact ⟨b ▸ h, Or.inl b⟩
    · simp only [h, if_false, Finset.notMem_empty, or_false]
      constructor
      · rintro ⟨a, b | b⟩
        · exact absurd (b ▸ a) h
        · exact ⟨a, b⟩
      · rintro ⟨a, b⟩
        exact ⟨a, Or.inr b⟩
  rw [hsplit, Finset.card_union_of_disjoint]
  · split <;> simp
  · split
    · rw [Finset.disjoint_singleton_right]
      intro h
      exact (Finset.mem_filter.1 h).2.2.ne rfl
    · exact Finset.disjoint_empty_right _

end Cert.Order
-- ==== Proof.RouteOps.lean ====
/-
  Two of the host's operations read at an index: the running sum down the rows of a matrix of extended reals, and the
  take of one entry from each row. Nothing here names a program.
-/
module

public import Idealize.ShloMosaic.PureOps.Ideal
public import Idealize.ShloMosaic.Lib.Routing.OpsOne

@[expose] public section

namespace Cert.RouteOps

open Idealize.ShloMosaic Idealize.ShloMosaic.ValueIdx Idealize.ShloMosaic.Routing

/-- A left fold by addition is the start plus the sum. -/
theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- The window that ends at row `j` holds the rows up to `j`, each once, and padding. -/
theorem sum_window (M N : Nat) (hM : M = N + 1) (f : Fin (N + 1) → EReal) (j : Fin (N + 1)) :
    (∑ n : Fin M, if h : N ≤ j.val + n.val then f ⟨j.val + n.val - N, by have := j.isLt; have := n.isLt; omega⟩ else 0)
      = ∑ i : Fin (N + 1), if i ≤ j then f i else 0 := by
  subst hM
  have hj := j.isLt
  refine Finset.sum_bij_ne_zero (fun n _ hn => if h : N ≤ j.val + n.val then (⟨j.val + n.val - N, by have := n.isLt; omega⟩ : Fin (N + 1)) else 0)
    (fun _ _ _ => Finset.mem_univ _) (fun a _ ha b _ hb e => ?_) (fun i _ hi => ?_) fun n _ hn => ?_
  · have ha' : N ≤ j.val + a.val := by by_contra h; exact ha (dif_neg h)
    have hb' : N ≤ j.val + b.val := by by_contra h; exact hb (dif_neg h)
    rw [dif_pos ha', dif_pos hb', Fin.ext_iff] at e
    dsimp only at e
    exact Fin.ext (by omega)
  · have hij : i ≤ j := by by_contra h; exact hi (if_neg h)
    have hij' : i.val ≤ j.val := hij
    rw [if_pos hij] at hi
    have hle : N ≤ j.val + (i.val + N - j.val) := by omega
    have hval : j.val + (i.val + N - j.val) - N = i.val := by omega
    refine ⟨⟨i.val + N - j.val, by omega⟩, Finset.mem_univ _, ?_, ?_⟩
    · rw [dif_pos hle]
      simp only [hval]
      exact hi
    · rw [dif_pos hle]
      exact Fin.ext hval
  · have hn' : N ≤ j.val + n.val := by by_contra h; exact hn (dif_neg h)
    have := n.isLt
    rw [dif_pos hn', dif_pos hn', if_pos]
    show j.val + n.val - N ≤ j.val
    omega

/-- The running sum down the rows: entry `(j, c)` is the sum of the entries of column `c` up to row `j`. -/
theorem cumsum_at {R N C : Nat} (hR : N + 1 = R) (x : (shape2 R C).Idx → EReal)
    (h : (shape2 R C).ReduceWindows (![R, 1] : Fin 2 → Nat) ![1, 1] ![N, 0] ![0, 0] (shape2 R C)) (j : Fin R) (c : Fin C) :
    Ideal.hostReduceWindowAdd ![R, 1] ![1, 1] ![N, 0] ![0, 0] h x 0 (ix2 j c)
      = ∑ i : Fin R, if i ≤ j then x (ix2 i c) else 0 := by
  subst hR
  have hj := j.isLt
  have hc := c.isLt
  rw [← sum_window _ N (numel_col (N + 1)) (fun i => x (ix2 i c)) j]
  unfold Ideal.hostReduceWindowAdd Host.reduceWindow
  refine (foldl_add _ _ _).trans ?_
  rw [zero_add, ← List.ofFn_eq_map, List.sum_ofFn]
  refine Finset.sum_congr rfl fun n _ => ?_
  have hw0 : ((shape2 (N + 1) 1).rowMajor.symm n 0).val = n.val := by rw [symm_col]; rfl
  have hw1 : ((shape2 (N + 1) 1).rowMajor.symm n 1).val = 0 := by rw [symm_col]; rfl
  have hn : n.val < N + 1 := (n.cast (numel_col _)).isLt
  by_cases hle : N ≤ j.val + n.val
  · rw [dif_pos hle, dif_pos]
    · refine congrArg x (funext fun a => Fin.ext ?_)
      match a with
      | ⟨0, _⟩ =>
        show j.val * 1 + ((shape2 (N + 1) 1).rowMajor.symm n 0).val - N = j.val + n.val - N
        rw [hw0, Nat.mul_one]
      | ⟨1, _⟩ =>
        show c.val * 1 + ((shape2 (N + 1) 1).rowMajor.symm n 1).val - 0 = c.val
        rw [hw1]
        omega
    · intro a
      match a with
      | ⟨0, _⟩ =>
        show N ≤ j.val * 1 + ((shape2 (N + 1) 1).rowMajor.symm n 0).val
          ∧ j.val * 1 + ((shape2 (N + 1) 1).rowMajor.symm n 0).val - N < N + 1
        rw [hw0]
        omega
      | ⟨1, _⟩ =>
        show 0 ≤ c.val * 1 + ((shape2 (N + 1) 1).rowMajor.symm n 1).val
          ∧ c.val * 1 + ((shape2 (N + 1) 1).rowMajor.symm n 1).val - 0 < C
        rw [hw1]
        omega
  · rw [dif_neg hle, dif_neg]
    intro hin
    have h0 := hin 0
    change N ≤ j.val * 1 + ((shape2 (N + 1) 1).rowMajor.symm n 0).val
      ∧ j.val * 1 + ((shape2 (N + 1) 1).rowMajor.symm n 0).val - N < N + 1 at h0
    rw [hw0] at h0
    omega

/-- The take of one entry from each row, by a column of index words: where the word of row `r` is a column's number,
    the result's entry is the row's entry in that column. -/
theorem takeAlong_at {α : Type} {R C : Nat} (hC : C < 2 ^ 31)
    (wf : GatherDims.WF (shape2 R C) (shape3 R 1 1) (shape2 R 1) [] [1] [0] [1] [0] 2 ![1, 1])
    (x : (shape2 R C).Idx → α) (idx : IVec (shape3 R 1 1) 32) (r : Fin R) (b : Fin C)
    (hb : idx (ix3 r (0 : Fin 1) (0 : Fin 1)) = BitVec.ofNat 32 b.val) :
    Host.gather (⟨[], [1], [0], [0], [1], 2, ![1, 1], wf⟩ : GatherDims (shape2 R C) (shape3 R 1 1) (shape2 R 1)) x idx (ix2 r (0 : Fin 1))
      = x (ix2 r b) := by
  have hbl := b.isLt
  unfold Host.gather
  refine congrArg x (funext fun a => Fin.ext ?_)
  let d : GatherDims (shape2 R C) (shape3 R 1 1) (shape2 R 1) := ⟨[], [1], [0], [0], [1], 2, ![1, 1], wf⟩
  show d.start (ix2 r (0 : Fin 1)) idx a + d.batchCoord (ix2 r (0 : Fin 1)) a + d.offCoord (ix2 r (0 : Fin 1)) a = _
  match a with
  | ⟨0, _⟩ =>
    show d.start (ix2 r (0 : Fin 1)) idx 0 + d.batchCoord (ix2 r (0 : Fin 1)) 0 + d.offCoord (ix2 r (0 : Fin 1)) 0 = r.val
    rw [d.start_batching _ _ _ (List.mem_singleton.mpr rfl),
      d.offCoord_eq_zero _ _ fun h => ((d.mem_sKept _).mp h).2 (List.mem_singleton.mpr rfl)]
    simp only [Nat.zero_add, Nat.add_zero]
    unfold GatherDims.batchCoord
    rw [dif_pos (List.mem_singleton.mpr rfl)]
    rfl
  | ⟨1, _⟩ =>
    show d.start (ix2 r (0 : Fin 1)) idx 1 + d.batchCoord (ix2 r (0 : Fin 1)) 1 + d.offCoord (ix2 r (0 : Fin 1)) 1 = b.val
    rw [d.batchCoord_eq_zero _ _ (fun h => absurd (Fin.ext_iff.1 (List.mem_singleton.1 h)) (show ¬ (1 : Nat) = 0 by decide)),
      d.offCoord_eq_zero _ _ fun h => ((d.mem_sKept _).mp h).1 (List.mem_singleton.mpr rfl)]
    simp only [Nat.add_zero]
    unfold GatherDims.start
    rw [dif_pos (List.mem_singleton.mpr rfl)]
    have hsi : d.siIdx (ix2 r (0 : Fin 1)) ⟨List.idxOf (1 : Fin 2) d.startIndexMap, List.idxOf_lt_length_iff.2 (List.mem_singleton.mpr rfl)⟩
        = ix3 r (0 : Fin 1) (0 : Fin 1) := by
      funext b'
      refine Fin.ext ?_
      match b' with
      | ⟨0, _⟩ => rfl
      | ⟨1, _⟩ => rfl
      | ⟨2, _⟩ => rfl
    rw [hsi, hb, StableHlo.Predicate.toInt_ofNat_small _ (by omega)]
    show min ((b.val : Int)).toNat (C - 1) = b.val
    omega

/-- The second operand of a sort of two vectors, where the comparison of two positions is `lt`: it is read through the
    positions' order under `lt`. -/
theorem sort_snd {α β : Type} {N : Nat} (cmp : α × β → α × β → BitVec 1) (x : (shape1 N).Idx → α) (y : (shape1 N).Idx → β)
    (lt : Fin N → Fin N → Bool) (hlt : ∀ a b : Fin N, (cmp (x (ix1 a), y (ix1 a)) (x (ix1 b), y (ix1 b)) == 1#1) = lt a b) (r : Fin N) :
    (Host.sort2 (shape1 N) 0 cmp x y).2 (ix1 r) = y (ix1 (sortedFrom lt r)) := by
  have hd : 0 < (shape1 N).rank := Nat.zero_lt_one
  have along : ∀ k : Fin N, (ix1 r : (shape1 N).Idx).along (⟨0, hd⟩ : Fin (shape1 N).rank) k = ix1 k := fun k =>
    (Shape.Idx.along_rank1 _ k).trans (ofFin_eq_ix1 k)
  have hB : (fun a b : Fin N => cmp (x ((ix1 r).along ⟨0, hd⟩ a), y ((ix1 r).along ⟨0, hd⟩ a))
      (x ((ix1 r).along ⟨0, hd⟩ b), y ((ix1 r).along ⟨0, hd⟩ b)) == 1#1) = lt := by
    funext a b
    rw [along a, along b]
    exact hlt a b
  unfold Host.sort2
  rw [dif_pos hd]
  refine Eq.trans ?_ (congrArg y (along _))
  exact congrArg (fun B : Fin N → Fin N → Bool => y ((ix1 r).along ⟨0, hd⟩ (sortedFrom B r))) hB

end Cert.RouteOps
-- ==== Proof.RefTake.lean ====
/-
  The reference's takes, sort and scatter, read at an index.
-/
module

public import proofs.«01_k».proof.Proof.RefRoute
public import proofs.«01_k».proof.Proof.Order
public import proofs.«01_k».proof.Proof.RouteOps
public import Idealize.ShloMosaic.Lib.ReduceAll

@[expose] public section

set_option maxRecDepth 8192

noncomputable section

namespace Cert.RefTake

open Idealize.ShloMosaic Idealize.ShloMosaic.TcCoe
open Cert.ReferenceIdeal Cert.ReferenceIdeal.Gen Cert.RefRoute

/-- A row's number is no negative number, so it stands as it is. -/
theorem wrap_at (x : IVec S1024 32) (r b : Fin 1024) (hx : x (ix1 r) = BitVec.ofNat 32 b.val) :
    wrap x (ix2 r (0 : Fin 1)) = BitVec.ofNat 32 b.val := by
  pointwise [wrap, hx]
  clear hx
  revert b; decide +kernel

theorem rows_at {α : Type} (x : S1024x16.Idx → α) (i : IVec S1024 32) (r b : Fin 1024) (e : Fin 16)
    (hi : i (ix1 r) = BitVec.ofNat 32 b.val) : rows x i (ix2 r e) = x (ix2 b e) :=
  Routing.gather_row _ rfl rfl rfl rfl rfl x (wrap i) r e b (wrap_at i r b hi) (by norm_num)

theorem wrapCol_at (k : IVec S1024 32) (r : Fin 1024) (f : Fin 16) (hk : k (ix1 r) = BitVec.ofNat 32 f.val) :
    wrapCol k (ix3 r (0 : Fin 1) (0 : Fin 1)) = BitVec.ofNat 32 f.val := by
  pointwise [wrapCol, hk]
  clear hk
  revert f; decide +kernel

theorem inside_at (v : IVec S1024x1x1 32) (hv : ∀ r : Fin 1024, ∃ f : Fin 16, v (ix3 r (0 : Fin 1) (0 : Fin 1)) = BitVec.ofNat 32 f.val)
    (j : S1024x1.Idx) : inside v j = 1#1 := by
  unfold inside
  refine Host.reduce_andi_one _ _ _ _ _ rfl fun i => ?_
  obtain ⟨r, a, b, rfl⟩ : ∃ r a b, i = ix3 r a b := ⟨i 0, i 1, i 2, eq_ix3 i⟩
  obtain rfl : a = 0 := Subsingleton.elim (α := Fin 1) _ _
  obtain rfl : b = 0 := Subsingleton.elim (α := Fin 1) _ _
  obtain ⟨f, hf⟩ := hv r
  pointwise [hf]
  clear hf
  revert f; decide +kernel

/-- Each row's entry in its chosen column. -/
theorem chosen_at (p : FVec Ideal S1024x16 .f32) (k : IVec S1024 32) (f : Fin 1024 → Fin 16)
    (hk : ∀ r, k (ix1 r) = BitVec.ofNat 32 (f r).val) (r : Fin 1024) : chosen p k (ix1 r) = p (ix2 r (f r)) := by
  unfold chosen
  refine (Routing.cast21 _ _ r (0 : Fin 1) r (by simp)).trans ?_
  show Scalar.select (inside (wrapCol k) (ix2 r (0 : Fin 1))) _ _ = _
  rw [inside_at _ fun r => ⟨f r, wrapCol_at k r (f r) (hk r)⟩]
  exact RouteOps.takeAlong_at (by norm_num) _ p (wrapCol k) r (f r) (wrapCol_at k r (f r) (hk r))

/-- The comparison of the sort is the comparison of the first components. -/
theorem comparator_eq (a b : EReal) (m n : BitVec 32) :
    (comparator_f32_i32_d0 (F := Ideal) (a, m) (b, n) == 1#1) = decide (a < b) := by
  unfold comparator_f32_i32_d0
  have h0 : ∀ x c : EReal, Scalar.select (FloatOps.cmpf (F := Ideal) (φ := .f32) .oeq x c) c x = x := fun x c => by
    rw [Ideal.cmpf_def]
    by_cases h : x = c <;> simp [Ideal.cmp, Scalar.select, h]
  have h1 : ∀ x c y : EReal, Scalar.select (FloatOps.cmpf (F := Ideal) (φ := .f32) .une x x) c y = y := fun x c y => by
    rw [Ideal.cmpf_def]
    simp [Ideal.cmp, Scalar.select]
  dsimp only
  rw [h0, h0, h1, h1]
  show (Ideal.cmpTotal .lt a b == 1#1) = _
  by_cases h : a < b <;> simp [Ideal.cmpTotal, Ideal.cmp, CmpDirection.ordered, h]

/-- The sort gives the rows' numbers in the order of the keys. -/
theorem sorted_at (P : FVec Ideal S1024 .f32) (i : Fin 1024) :
    sorted P (ix1 i) = BitVec.ofNat 32 (Order.order (fun r => -P (ix1 r)) i).val := by
  rw [← Order.sortedFrom_eq]
  exact RouteOps.sort_snd _ _ (iotaInDim S1024 32 0) _ (fun a b => comparator_eq _ _ _ _) i

/-- The scatter inverts a permutation of the rows. -/
theorem inverse_at (i : IVec S1024 32) (σ : Fin 1024 ≃ Fin 1024) (hi : ∀ r, i (ix1 r) = BitVec.ofNat 32 (σ r).val) (r : Fin 1024) :
    inverse i (ix1 r) = BitVec.ofNat 32 (σ.symm r).val := by
  unfold inverse
  refine (Routing.scatter_set _ rfl rfl rfl _ (wrap i) (iotaInDim S1024 32 0) (fun n => if h : n < 1024 then (σ ⟨n, h⟩).val else 0)
    (fun a => ?_) (fun a => ?_) r _ fun a ha => ?_).1 ⟨σ.symm r, ?_⟩
  · rw [dif_pos a.isLt]
    exact wrap_at i a (σ a) (hi a)
  · rw [dif_pos a.isLt]
    exact lt_trans (σ a).isLt (by norm_num)
  · rw [dif_pos a.isLt] at ha
    have : σ.symm r = a := by rw [Equiv.symm_apply_eq]; exact Fin.ext ha.symm
    rw [this]
    pointwise
  · rw [dif_pos (σ.symm r).isLt]
    exact congrArg Fin.val (σ.apply_symm_apply r)

end Cert.RefTake
-- ==== Proof.Routed.lean ====
/-
  Where a row is routed: to its most probable column, at the place that its greatest probability takes among the rows
  that chose the same column, the greatest first and, among equals, the earlier row.
-/
module

public import proofs.«01_k».proof.Proof.GateReal
public import proofs.«01_k».proof.Proof.Order

@[expose] public section

noncomputable section

namespace Cert.Routed

open Idealize.ShloMosaic
open Cert.ReferenceIdeal Cert.ReferenceIdeal.Gen

variable (p : FVec Ideal S1024x16 .f32)

/-- A row's greatest probability. -/
def peak (r : Fin 1024) : EReal := p (ix2 r (Gate.pick p r))

/-- The key by which the rows are put in order. -/
def key (r : Fin 1024) : EReal := -peak p r

/-- The number of rows ahead of a row among those that chose the same column. -/
def rank (r : Fin 1024) : ℕ :=
  (Finset.univ.filter fun j => Gate.pick p j = Gate.pick p r ∧ Order.Ahead (key p) j r).card

/-- One entry of the combining tensor: the row's greatest probability at its column and place, zero elsewhere. -/
def routed (r : Fin 1024) (e : Fin 16) (c : Fin 96) : EReal :=
  if e = Gate.pick p r ∧ c.val = rank p r then peak p r else 0

/-- A row stands ahead of another when its greatest probability is greater, or is the same and it comes earlier. -/
theorem ahead_iff (j r : Fin 1024) :
    Order.Ahead (key p) j r ↔ peak p r < peak p j ∨ (peak p j = peak p r ∧ j < r) := by
  unfold Order.Ahead key
  rw [EReal.neg_lt_neg_iff, neg_inj]

theorem rank_lt (r : Fin 1024) : rank p r < 1024 := by
  have h : (Finset.univ.filter fun j => Gate.pick p j = Gate.pick p r ∧ Order.Ahead (key p) j r) ⊂ Finset.univ := by
    refine Finset.filter_ssubset.2 ⟨r, Finset.mem_univ _, fun h => h.2.ne rfl⟩
  have := Finset.card_lt_card h
  rwa [Finset.card_univ, Fintype.card_fin] at this

end Cert.Routed
-- ==== Proof.RefRouted.lean ====
/-
  The reference's two routing tensors, from the probabilities, read at an index.
-/
module

public import proofs.«01_k».proof.Proof.RefTake
public import proofs.«01_k».proof.Proof.RefStats
public import proofs.«01_k».proof.Proof.Routed

@[expose] public section

set_option maxRecDepth 8192

noncomputable section

namespace Cert.RefRouted

open Idealize.ShloMosaic Idealize.ShloMosaic.TcCoe
open Cert.ReferenceIdeal Cert.ReferenceIdeal.Gen Cert.RefStages Cert.RefRoute Cert.RefTake Cert.Routed

variable {p : FVec Ideal S1024x16 .f32} (hp : Gate.Real2 p)

/-- The rows' greatest probabilities. -/
def peaks (p : FVec Ideal S1024x16 .f32) : FVec Ideal S1024 .f32 := chosen p (Gate.best p)

/-- The one-hot rows in sorted order. -/
def hot (p : FVec Ideal S1024x16 .f32) : FVec Ideal S1024x16 .f32 := rows (oneHot (Gate.best p)) (sorted (peaks p))

/-- The kept ones, the rows back in their own order. -/
def keptRows (p : FVec Ideal S1024x16 .f32) : FVec Ideal S1024x16 .f32 :=
  rows (kept (hot p) (position (hot p))) (inverse (sorted (peaks p)))

/-- The positions as words, the rows back in their own order. -/
def slotRows (p : FVec Ideal S1024x16 .f32) : IVec S1024x16 32 :=
  rows (slot (position (hot p))) (inverse (sorted (peaks p)))

/-- The combining tensor of the probabilities. -/
def combined (p : FVec Ideal S1024x16 .f32) : FVec Ideal S1024x16x96 .f32 :=
  combine (weight (peaks p) (keptRows p)) (keptRows p) (slotRows p)

include hp

theorem peaks_at (r : Fin 1024) : peaks p (ix1 r) = peak p r :=
  chosen_at p _ (Gate.pick p) (fun r => (Gate.pick_spec hp r).2) r

theorem sorted_peaks (i : Fin 1024) : sorted (peaks p) (ix1 i) = BitVec.ofNat 32 (Order.order (key p) i).val := by
  rw [sorted_at]
  have : (fun r => -peaks p (ix1 r)) = key p := funext fun r => by rw [peaks_at hp]; rfl
  rw [this]

theorem inverse_sorted (r : Fin 1024) : inverse (sorted (peaks p)) (ix1 r) = BitVec.ofNat 32 (Order.place (key p) r).val :=
  inverse_at _ (Order.orderEquiv (key p)) (fun i => by rw [Order.orderEquiv_apply]; exact sorted_peaks hp i) r

theorem hot_at (i : Fin 1024) (e : Fin 16) :
    hot p (ix2 i e) = if e = Gate.pick p (Order.order (key p) i) then (1 : EReal) else 0 := by
  unfold hot
  rw [rows_at _ _ i _ e (sorted_peaks hp i)]
  exact RefStats.oneHot_at _ _ e _ (Gate.pick_spec hp _).2

omit hp in
/-- A sum of ones and noughts is a count. -/
theorem sum_ones {ι : Type} [Fintype ι] (q : ι → Prop) [DecidablePred q] :
    (∑ i, if q i then (1 : EReal) else 0) = ((((Finset.univ.filter q).card : ℕ) : ℝ) : EReal) := by
  have : ∀ i, (if q i then (1 : EReal) else 0) = (((if q i then 1 else 0 : ℝ)) : EReal) := fun i => by split <;> simp
  simp only [this]
  rw [Gate.sum_coe, Finset.sum_boole]

omit hp in
theorem word_one : Ideal.ofBits .f32 0x3F800000#32 = ((1 : ℝ) : EReal) := by
  simp [Ideal.ofBits, Ideal.ieee, -EReal.coe_mul]; norm_num

omit hp in
theorem word_96 : Ideal.ofBits .f32 0x42C00000#32 = ((96 : ℝ) : EReal) := by
  simp [Ideal.ofBits, Ideal.ieee, -EReal.coe_mul]; norm_num

/-- At a row's place in the sorted order and its own column, the position is the number of rows ahead of it. -/
theorem position_at (r : Fin 1024) :
    position (hot p) (ix2 (Order.place (key p) r) (Gate.pick p r)) = (((rank p r : ℕ) : ℝ) : EReal) := by
  have hsum : ∀ (x : FVec Ideal S1024x16 .f32) (j : Fin 1024) (e : Fin 16),
      Host.reduceWindowAdd (F := Ideal) ![1024, 1] ![1, 1] ![1023, 0] ![0, 0] x (broadcastInDim S_ ![] bcast_S_S_ zero)
        reduceWindows_S1024x16_S1024x16_w1024s1p1023_0_w1s1p0_0 h_S_ (ix2 j e)
        = ∑ i : Fin 1024, if i ≤ j then x (ix2 i e) else 0 := fun x j e => by
    have h0 : broadcastInDim S_ ![] bcast_S_S_ zero (Shape.Idx.first h_S_) = (0 : EReal) := by
      show Ideal.ofBits .f32 0x00000000#32 = 0
      simp [Ideal.ofBits, Ideal.ieee]
    unfold Host.reduceWindowAdd
    rw [h0, Ideal.hostReduceWindowAdd_def]
    exact RouteOps.cumsum_at (by norm_num) x _ j e
  show _ - Ideal.ofBits .f32 0x3F800000#32 = _
  rw [hsum, word_one]
  have hcond : ∀ i : Fin 1024, (if i ≤ Order.place (key p) r then hot p (ix2 i (Gate.pick p r)) else 0)
      = if i ≤ Order.place (key p) r ∧ Gate.pick p (Order.order (key p) i) = Gate.pick p r then (1 : EReal) else 0 := fun i => by
    rw [hot_at hp, ← ite_and]
    simp only [eq_comm]
  simp only [hcond]
  rw [sum_ones, Order.card_upto (key p) (fun j => Gate.pick p j = Gate.pick p r) r, if_pos rfl, ← EReal.coe_sub, Nat.cast_add,
    Nat.cast_one, add_sub_cancel_right]
  rfl

omit hp in
theorem kept_at (h q : FVec Ideal S1024x16 .f32) (i : S1024x16.Idx) :
    kept h q i = h i * FloatOps.uitofp (F := Ideal) FTy.f32 (Ideal.cmp .olt (q i) (Ideal.ofBits .f32 0x42C00000#32)) := rfl

/-- A row keeps a one in its own column when fewer than ninety-six rows are ahead of it there. -/
theorem keptRows_at (r : Fin 1024) (e : Fin 16) :
    keptRows p (ix2 r e) = if e = Gate.pick p r ∧ rank p r < 96 then (1 : EReal) else 0 := by
  unfold keptRows
  rw [rows_at _ _ r _ e (inverse_sorted hp r), kept_at, hot_at hp, Order.order_place]
  by_cases h : e = Gate.pick p r
  · subst h
    rw [if_pos rfl, position_at hp, word_96, RefStats.bit_at (rank p r < 96), one_mul]
    · simp only [true_and]
    · have : (((rank p r : ℕ) : ℝ) : EReal) < ((96 : ℝ) : EReal) ↔ rank p r < 96 := by
        rw [EReal.coe_lt_coe_iff]; exact_mod_cast Iff.rfl
      by_cases hr : rank p r < 96
      · rw [if_pos hr]
        show BitVec.ofBool (decide _) = 1#1
        rw [decide_eq_true (this.2 hr)]
        rfl
      · rw [if_neg hr]
        show BitVec.ofBool (decide _) = 0#1
        rw [decide_eq_false (mt this.1 hr)]
        rfl
  · rw [if_neg h, zero_mul, if_neg fun t => h t.1]

theorem weight_at (r : Fin 1024) :
    weight (peaks p) (keptRows p) (ix1 r) = peak p r * if rank p r < 96 then (1 : EReal) else 0 := by
  unfold weight zero
  pointwise [peaks_at hp, keptRows_at hp]
  congr 1
  by_cases h : rank p r < 96
  · simp [h]
  · simp [h]

/-- Where fewer than ninety-six rows are ahead of a row, its slot is their number. -/
theorem slotRows_at (r : Fin 1024) (h : rank p r < 96) : slotRows p (ix2 r (Gate.pick p r)) = BitVec.ofNat 32 (rank p r) := by
  unfold slotRows
  rw [rows_at _ _ r _ _ (inverse_sorted hp r)]
  show Ideal.fptosi 32 (min ((((95#32 : BitVec 32).toInt : ℤ) : ℝ) : EReal) (max ((((0#32 : BitVec 32).toInt : ℤ) : ℝ) : EReal) (position (hot p) (ix2 _ _)))) = _
  rw [position_at hp, show ((95#32 : BitVec 32).toInt) = 95 by decide, show ((0#32 : BitVec 32).toInt) = 0 by decide]
  have h0 : (((0 : ℤ) : ℝ) : EReal) ≤ (((rank p r : ℕ) : ℝ) : EReal) := EReal.coe_le_coe_iff.2 (by rw [Int.cast_zero]; exact Nat.cast_nonneg _)
  have h1 : (((rank p r : ℕ) : ℝ) : EReal) ≤ (((95 : ℤ) : ℝ) : EReal) := EReal.coe_le_coe_iff.2 (by exact_mod_cast (by omega : rank p r ≤ 95))
  rw [max_eq_right h0, min_eq_right h1]
  unfold Ideal.fptosi
  rw [Ideal.toIntClamped_coe, if_pos (by positivity), Int.floor_natCast]
  rw [min_eq_right (by norm_num <;> omega), max_eq_right (by norm_num <;> omega)]
  exact BitVec.ofInt_natCast _ _

/-- The combining tensor routes each row. -/
theorem combined_at (r : Fin 1024) (e : Fin 16) (c : Fin 96) : combined p (ix3 r e c) = routed p r e c := by
  have hc := c.isLt
  have hpt : combined p (ix3 r e c) = weight (peaks p) (keptRows p) (ix1 r) * keptRows p (ix2 r e)
      * FloatOps.uitofp (F := Ideal) FTy.f32 (IntOp.cmpi .eq (slotRows p (ix2 r e)) (BitVec.ofNat 32 c.val)) := by
    unfold combined combine slotHot
    pointwise
  rw [hpt, weight_at hp, keptRows_at hp]
  unfold routed
  by_cases he : e = Gate.pick p r
  · subst he
    by_cases hr : rank p r < 96
    · rw [if_pos hr, if_pos ⟨rfl, hr⟩, slotRows_at hp r hr, mul_one, mul_one, RefStats.bit_at (c.val = rank p r)]
      · simp only [true_and, mul_ite, mul_one, mul_zero]
      · have : BitVec.ofNat 32 (rank p r) = BitVec.ofNat 32 c.val ↔ c.val = rank p r := by
          rw [← BitVec.toNat_inj, BitVec.toNat_ofNat, BitVec.toNat_ofNat, Nat.mod_eq_of_lt (by omega), Nat.mod_eq_of_lt (by omega)]
          exact eq_comm
        by_cases hq : c.val = rank p r
        · simp [IntOp.cmpi, this.2 hq, hq]
        · rw [if_neg hq]
          show BitVec.ofBool (_ == _) = 0#1
          rw [beq_eq_false_iff_ne.2 (mt this.1 hq)]
          rfl
    · rw [if_neg hr, mul_zero, zero_mul, zero_mul, if_neg fun t => hr (by rw [← t.2]; exact hc)]
  · have h1 : ¬(e = Gate.pick p r ∧ rank p r < 96) := fun t => he t.1
    have h2 : ¬(e = Gate.pick p r ∧ c.val = rank p r) := fun t => he t.1
    rw [if_neg h1, if_neg h2, mul_zero, zero_mul]

end Cert.RefRouted
-- ==== Proof.RouteKernel.lean ====
/-
  The routing kernel: after its four grid points the combining array holds, at every column, place and row, the row's
  greatest probability where the row is routed to that column and place, and zero elsewhere.
-/
module

public import proofs.«01_k».proof.Proof.KernelHost
public import proofs.«01_k».proof.Proof.Routed
public import Idealize.ShloMosaic.Lib.IndicatorCount

@[expose] public section

set_option maxRecDepth 8192

noncomputable section

namespace Cert.RouteKernel

open Idealize.ShloMosaic Idealize.ShloMosaic.TcCoe
open Cert.KernelIdeal Cert.KernelIdeal.Gen Cert.KernelHost

/-- The column of greatest probabilities, at a row. -/
theorem topCol_at {p : FVec Ideal S1024x16 .f32} (hp : Gate.Real2 p) (r : Fin 1024) :
    topCol p (ix2 r 0) = Routed.peak p r := by
  have h : Finset.fold max (⊥ : EReal) (fun e => p (ix2 r e)) Finset.univ = p (ix2 r (Gate.pick p r)) := by
    rw [Gate.fold_max_eq_sup]
    exact (Gate.pick_spec hp r).1.top_eq
  pointwise [topCol]
  rw [Gate.negInf]
  exact h

/-- Two columns' words are equal when the columns are. -/
theorem word_eq (a b : Fin 16) :
    IntOp.cmpi .eq (BitVec.ofNat 32 a.val) (BitVec.ofNat 32 b.val) = BitVec.ofBool (decide (a = b)) := by
  revert a b; decide +kernel

/-- Two small numbers' words are equal when the numbers are. -/
theorem small_eq {a b : ℕ} (ha : a < 1024) (hb : b < 1024) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ← BitVec.toNat_inj, BitVec.toNat_ofNat, BitVec.toNat_ofNat,
    Nat.mod_eq_of_lt (by omega), Nat.mod_eq_of_lt (by omega)]

/-- Two small numbers' words are in signed order when the numbers are. -/
theorem small_lt {a b : ℕ} (ha : a < 1024) (hb : b < 1024) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  have h : ∀ n : ℕ, n < 1024 → (BitVec.ofNat 32 n).toInt = (n : Int) := fun n hn => by
    rw [BitVec.toInt_ofNat', Int.bmod_def]; omega
  rw [Bool.eq_iff_iff, BitVec.slt_iff_toInt_lt, decide_eq_true_iff, h a ha, h b hb, Int.ofNat_lt]

/-- The row of a block's lane: the block's start plus the lane. -/
theorem lane (t y : ℕ) :
    IntOp.addi (Scalar.muli (BitVec.ofNat 32 t) 256#32) (BitVec.ofNat 32 y) = BitVec.ofNat 32 (256 * t + y) := by
  show BitVec.ofNat 32 t * BitVec.ofNat 32 256 + BitVec.ofNat 32 y = _
  rw [← BitVec.ofNat_mul, ← BitVec.ofNat_add, Nat.mul_comm]

theorem and_bool (a b : Prop) [Decidable a] [Decidable b] :
    IntOp.andi (BitVec.ofBool (decide a)) (BitVec.ofBool (decide b)) = BitVec.ofBool (decide (a ∧ b)) := by
  by_cases ha : a <;> by_cases hb : b <;> simp [ha, hb, IntOp.andi]

theorem or_bool (a b : Prop) [Decidable a] [Decidable b] :
    IntOp.ori (BitVec.ofBool (decide a)) (BitVec.ofBool (decide b)) = BitVec.ofBool (decide (a ∨ b)) := by
  by_cases ha : a <;> by_cases hb : b <;> simp [ha, hb, IntOp.ori]

/-- One entry of a block, when the operands hold the greatest probabilities and the chosen columns of all the rows
    and of the block's own. -/
theorem pay_at (p : FVec Ideal S1024x16 .f32) (i : grid2.Coords) (A : FVec Ideal S1024x1 .f32) (B : IVec S1024x1 32)
    (X : FVec Ideal S1x256 .f32) (Y : IVec S1x256 32) (e : Fin 16) (s : Fin 96) (y : Fin 256) (r : Fin 1024)
    (hr : 256 * (i 0).val + y.val = r.val)
    (hA : ∀ j, A (ix2 j 0) = Routed.peak p j) (hB : ∀ j, B (ix2 j 0) = BitVec.ofNat 32 (Gate.pick p j).val)
    (hX : X (ix2 0 y) = Routed.peak p r) (hY : Y (ix2 0 y) = BitVec.ofNat 32 (Gate.pick p r).val) :
    k2_pay1 (F := Ideal) i A B X Y (ix3 e s y) = Routed.routed p r e s := by
  pointwise [k2_pay1]
  have hj : ∀ j : Fin 1024, (j.val < r.val) = (j < r) := fun _ => rfl
  have hs : s.val < 1024 := by omega
  simp only [hA, hB, hX, hY, lane, hr, word_eq, small_lt (Fin.isLt _) (Fin.isLt _), hj, and_bool, or_bool]
  rw [IndicatorCount.fold_addi_setWidth_eq_card]
  have hc : (Finset.univ.filter fun j : Fin 1024 => BitVec.ofBool (decide (Gate.pick p j = Gate.pick p r ∧
      (Routed.peak p r < Routed.peak p j ∨ (Routed.peak p j = Routed.peak p r ∧ j < r)))) = 1#1).card = Routed.rank p r := by
    unfold Routed.rank
    congr 1
    ext j
    rw [Finset.mem_filter, Finset.mem_filter, Routed.ahead_iff]
    refine and_congr_right fun _ => ?_
    by_cases h : Gate.pick p j = Gate.pick p r ∧
      (Routed.peak p r < Routed.peak p j ∨ (Routed.peak p j = Routed.peak p r ∧ j < r)) <;> simp [h]
  rw [hc, small_eq hs (Routed.rank_lt p r), and_bool]
  unfold Routed.routed
  by_cases h : e = Gate.pick p r ∧ s.val = Routed.rank p r
  · rw [if_pos h, decide_eq_true h]; rfl
  · rw [if_neg h, decide_eq_false h]; exact if_neg (by decide)

/-- The combining array, column first. -/
def placed (p : FVec Ideal S1024x16 .f32) : FVec Ideal S16x96x1024 .f32 := fun i => Routed.routed p (i 2) (i 0) (i 1)

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz : (![0, 0] : Fin 2 → Nat) = fun _ => 0 := funext fun a => by fin_cases a <;> rfl

/-- Point `t` reads all the rows, and its own 256 rows; it writes its own 256 rows. -/
theorem idx0 : ∀ t : Fin cfg2.N, (cfg2.win 0).index t = ![0, 0] := by decide +kernel
theorem idx1 : ∀ t : Fin cfg2.N, (cfg2.win 1).index t = ![0, 0] := by decide +kernel
theorem idx2 : ∀ t : Fin cfg2.N, (cfg2.win 2).index t = ![0, t.val] := by decide +kernel
theorem idx3 : ∀ t : Fin cfg2.N, (cfg2.win 3).index t = ![0, t.val] := by decide +kernel
theorem idx4 : ∀ t : Fin cfg2.N, (cfg2.win 4).index t = ![0, 0, t.val] := by decide +kernel
theorem coord : ∀ t : Fin cfg2.N, (grid2.coords t 0).val = t.val := by decide +kernel

/-- The combining array after the region, when the region's operands are those of the probabilities `p`. -/
theorem array_eq {p : FVec Ideal S1024x16 .f32} (hp : Gate.Real2 p)
    (h19 : (V c main_v19 : FVec Ideal S1024x1 .f32) = topCol p)
    (h24 : (V c main_v24 : IVec S1024x1 32) = shapeCast S1024x1 (Gate.best p) shapeCasts_S1024_S1024x1)
    (h22 : (V c main_v22 : FVec Ideal S1x1024 .f32) = shapeCast S1x1024 (topCol p) shapeCasts_S1024x1_S1x1024)
    (h23 : (V c main_v23 : IVec S1x1024 32) = shapeCast S1x1024 (Gate.best p) shapeCasts_S1024_S1x1024) :
    (dat2 V c).arrAt 4 cfg2.N = placed p := by
  refine (dat2 V c).arrAt_eq_of_covers 4 _ (by decide +kernel) fun t hf y => ?_
  have g0 : win2_0.index t = ![0, 0] := idx0 t
  have g1 : win2_1.index t = ![0, 0] := idx1 t
  have g2 : win2_2.index t = ![0, t.val] := idx2 t
  have g3 : win2_3.index t = ![0, t.val] := idx3 t
  have g4 : win2_4.index t = ![0, 0, t.val] := idx4 t
  have ht : t.val < 4 := t.isLt
  blk_simp
  rw [after2_4]
  unfold out2_4
  rw [View.canon_unit_zero hz3, View.ld_unit_zero hz, View.ld_unit_zero hz, View.ld_unit_zero hz, View.ld_unit_zero hz]
  obtain ⟨e, s, y, rfl⟩ : ∃ (e : Fin 16) (s : Fin 96) (z : Fin 256), y = ix3 e s z := ⟨y 0, y 1, y 2, eq_ix3 y⟩
  let r : Fin 1024 := ⟨t.val * 256 + y.val, by omega⟩
  have hA : ∀ j : Fin 1024, iblk2 V c 0 t (ix2 j 0) = Routed.peak p j := fun j => by
    rw [← topCol_at hp j, ← h19]
    blk_simp [iblk2]
    blk_ext! <;> simp [g0]
  have hB : ∀ j : Fin 1024, iblk2 V c 1 t (ix2 j 0) = BitVec.ofNat 32 (Gate.pick p j).val := fun j => by
    rw [← (Gate.pick_spec hp j).2]
    have : (V c main_v24 : IVec S1024x1 32) (ix2 j 0) = Gate.best p (ix1 j) := by
      rw [h24]; pointwise
    rw [← this]
    blk_simp [iblk2]
    blk_ext! <;> simp [g1]
  have hX : iblk2 V c 2 t (ix2 0 y) = Routed.peak p r := by
    rw [← topCol_at hp r]
    have : (V c main_v22 : FVec Ideal S1x1024 .f32) (ix2 0 r) = topCol p (ix2 r 0) := by
      rw [h22]; pointwise
    rw [← this]
    blk_simp [iblk2]
    blk_ext! <;> simp [g2, r]
  have hY : iblk2 V c 3 t (ix2 0 y) = BitVec.ofNat 32 (Gate.pick p r).val := by
    rw [← (Gate.pick_spec hp r).2]
    have : (V c main_v23 : IVec S1x1024 32) (ix2 0 r) = Gate.best p (ix1 r) := by
      rw [h23]; pointwise
    rw [← this]
    blk_simp [iblk2]
    blk_ext! <;> simp [g3, r]
  refine (pay_at p (grid2.coords t) _ _ _ _ e s y r (by rw [coord, Nat.mul_comm]) hA hB hX hY).trans ?_
  have : placed p (ix3 e s r) = Routed.routed p r e s := rfl
  rw [← this]
  clear this
  generalize placed p = G
  blk_ext! <;> simp [g4, r]

end Cert.RouteKernel
-- ==== Proof.KernelValues.lean ====
/-
  The kernel program's seven results, as functions of the run's raw logits.
-/
module

public import proofs.«01_k».proof.Proof.RouteKernel
public import proofs.«01_k».proof.Proof.DivKernel

@[expose] public section

set_option maxRecDepth 8192

noncomputable section

namespace Cert.KernelValues

open Idealize.ShloMosaic Idealize.ShloMosaic.TcCoe
open Cert.KernelIdeal Cert.KernelIdeal.Gen Cert.KernelHost

/-- The combining tensor of the probabilities, token first. -/
def combining (p : FVec Ideal S1024x16 .f32) : FVec Ideal S1024x16x96 .f32 := fun i => Routed.routed p (i 0) (i 1) (i 2)

theorem tokenFirst_placed (p : FVec Ideal S1024x16 .f32) : tokenFirst (RouteKernel.placed p) = combining p := by
  funext i
  obtain ⟨r, e, s, rfl⟩ : ∃ (r : Fin 1024) (e : Fin 16) (s : Fin 96), i = ix3 r e s := ⟨i 0, i 1, i 2, eq_ix3 i⟩
  unfold tokenFirst
  pointwise
  rfl

variable (m : (ℓ : Loc nD τ sig) → Buf (Elt Ideal) ℓ) (ρ : Dev nD → PrngReg) (c : Dev nD)

theorem probs_real : Gate.Real2 (probs m c) := Gate.softmax_real (Gate.clipped_real (logits m c))

/-- The combining tensor. -/
theorem v26 : (W11 m ρ c (Proc.devRef .tc main_v26) : FVec Ideal S1024x16x96 .f32) = combining (probs m c) := by
  have h : (W10 m ρ c (Proc.devRef .tc main_v25) : FVec Ideal S16x96x1024 .f32) = RouteKernel.placed (probs m c) :=
    (W10_arr m ρ c 4).trans (RouteKernel.array_eq (V9 m ρ) c (probs_real m c) (W9_v19 m ρ c) (W9_v24 m ρ c)
      (W9_v22 m ρ c) (W9_v23 m ρ c))
  rw [W11_v26, h, tokenFirst_placed]

/-- The dispatch mask. -/
theorem v28 : (W11 m ρ c (Proc.devRef .tc main_v28) : IVec S1024x16x96 1) = dispatch (combining (probs m c)) := by
  rw [W11_v28, v26]

/-- A number from the statistics kernel's one by one array. -/
theorem scalar_at (x : FVec Ideal S1x1 .f32) (v : EReal) (h : ∀ i, x i = v) : scalar x = fun _ => v := by
  funext i
  exact h _

/-- The z-loss. -/
theorem v29 : (W11 m ρ c (Proc.devRef .tc main_v29) : FVec Ideal S_ .f32)
    = fun _ => StatsKernel.zOf (Gate.clipped (logits m c)) := by
  have h : (W10 m ρ c (Proc.devRef .tc main_v21_1) : FVec Ideal S1x1 .f32) = k1_pay8 (F := Ideal) (flipped (logits m c)) :=
    (W10_v21 m ρ c 2 (by decide) (by decide +kernel)).trans ((StatsKernel.array2 (V7 m ρ) c).trans
      (congrArg (k1_pay8 (F := Ideal)) (W7_v20 m ρ c)))
  rw [W11_v29, h]
  exact scalar_at _ _ (StatsKernel.z_at _)

/-- The balance loss. -/
theorem v30 : (W11 m ρ c (Proc.devRef .tc main_v30) : FVec Ideal S_ .f32) = fun _ => StatsKernel.auxOf (probs m c) := by
  have h : (W10 m ρ c (Proc.devRef .tc main_v21_2) : FVec Ideal S1x1 .f32) = StatsKernel.auxPay (flipped (logits m c)) :=
    (W10_v21 m ρ c 3 (by decide) (by decide +kernel)).trans ((StatsKernel.array3 (V7 m ρ) c).trans
      (congrArg StatsKernel.auxPay (W7_v20 m ρ c)))
  rw [W11_v30, h]
  exact scalar_at _ _ (StatsKernel.aux_at _)

/-- The diversity loss. -/
theorem v31 : (W11 m ρ c (Proc.devRef .tc main_v31) : FVec Ideal S_ .f32)
    = fun _ => DivKernel.divOf (Gate.clipped (logits m c)) := by
  have h : (W10 m ρ c (Proc.devRef .tc main_v21_3) : FVec Ideal S1x1 .f32)
      = StatsKernel.divPay (k1_pay5 (F := Ideal) (flipped (logits m c))) :=
    (W10_v21 m ρ c 4 (by decide) (by decide +kernel)).trans ((StatsKernel.array4 (V7 m ρ) c).trans
      (congrArg (fun x => StatsKernel.divPay (k1_pay5 (F := Ideal) x)) (W7_v20 m ρ c)))
  rw [W11_v31, h]
  exact scalar_at _ _ (DivKernel.div_at _)

/-- The standard deviation of the raw logits. -/
theorem v32 : (W11 m ρ c (Proc.devRef .tc main_v32) : FVec Ideal S_ .f32) = fun _ => StatsKernel.spreadOf (logits m c) := by
  have h : (W10 m ρ c (Proc.devRef .tc main_v21_0) : FVec Ideal S1x1 .f32) = k1_pay4 (F := Ideal) (flipped (logits m c)) :=
    (W10_v21 m ρ c 1 (by decide) (by decide +kernel)).trans ((StatsKernel.array1 (V7 m ρ) c).trans
      (congrArg (k1_pay4 (F := Ideal)) (W7_v20 m ρ c)))
  rw [W11_v32, h]
  exact scalar_at _ _ (StatsKernel.std_at _)

end Cert.KernelValues
-- ==== Proof.RefValues.lean ====
/-
  The reference's seven results, as functions of its raw logits.
-/
module

public import proofs.«01_k».proof.Proof.RefStats
public import proofs.«01_k».proof.Proof.RefRouted
public import proofs.«01_k».proof.Proof.KernelValues

@[expose] public section

set_option maxRecDepth 8192

noncomputable section

namespace Cert.RefValues

open Idealize.ShloMosaic Idealize.ShloMosaic.TcCoe Idealize.ShloMosaic.StableHlo
open Cert.ReferenceIdeal Cert.ReferenceIdeal.Gen Cert.RefRun Cert.RefStages

variable (V : Valuation τ sig (Elt Ideal))

/-- The reference's raw logits. -/
def logits : FVec Ideal S1024x16 .f32 :=
  KernelHost.raw (V (Proc.devRef .tc main_arg0)) (V (Proc.devRef .tc main_arg1))

/-- The reference's probabilities. -/
def probs : FVec Ideal S1024x16 .f32 := Gate.softmax (Gate.clipped (logits V))

theorem probs_real : Gate.Real2 (probs V) := Gate.softmax_real (Gate.clipped_real (logits V))

theorem v3 : (final V main_v3 : FVec Ideal S1024x16 .f32) = logits V := (final_v3 V).trans (RefStats.raw_eq _ _)

/-- The scaled logits. -/
theorem v7 : (final V main_v7 : FVec Ideal S1024x16 .f32) = Gate.clipped (logits V) := by rw [final_v7, v3]

theorem v43 : (final V main_v43 : FVec Ideal S1024x16 .f32) = probs V := by rw [final_v43, v7]; rfl

theorem v44 : (final V main_v44 : IVec S1024 32) = Gate.best (probs V) := by rw [final_v44, v43]

theorem v48 : (final V main_v48 : FVec Ideal S1024x16 .f32) = oneHot (Gate.best (probs V)) := by rw [final_v48, v44]

/-- The standard deviation of the raw logits. -/
theorem v4 : (final V main_v4 : FVec Ideal S_ .f32) = fun _ => StatsKernel.spreadOf (logits V) := by
  rw [final_v4, v3]; exact funext fun i => RefStats.deviation_at _ i

/-- The z-loss. -/
theorem v13 : (final V main_v13 : FVec Ideal S_ .f32) = fun _ => StatsKernel.zOf (Gate.clipped (logits V)) := by
  rw [final_v13, v7]; exact funext fun i => RefStats.zLoss_at _ i

/-- The diversity loss. -/
theorem v32 : (final V main_v32 : FVec Ideal S_ .f32) = fun _ => DivKernel.divOf (Gate.clipped (logits V)) := by
  rw [final_v32, v7]; exact funext fun i => RefStats.divLoss_at _ i

/-- The balance loss. -/
theorem v57 : (final V main_v57 : FVec Ideal S_ .f32) = fun _ => StatsKernel.auxOf (probs V) := by
  rw [final_v57, v48, v43]; exact funext fun i => RefStats.auxLoss_at _ (probs_real V) i

/-- The combining tensor. -/
theorem v107 : (final V main_v107 : FVec Ideal S1024x16x96 .f32) = KernelValues.combining (probs V) := by
  have h47 : (final V main_v47 : FVec Ideal S1024 .f32) = RefRouted.peaks (probs V) := by
    rw [RefRoute.final_v47, v43, v44]; rfl
  have h59 : (final V main_v59 : IVec S1024 32) = RefRoute.sorted (RefRouted.peaks (probs V)) := by
    rw [RefRoute.final_v59, h47]
  have h66 : (final V main_v66 : FVec Ideal S1024x16 .f32) = RefRouted.hot (probs V) := by
    rw [RefRoute.final_v66, v48, h59]; rfl
  have h82 : (final V main_v82 : IVec S1024 32) = RefRoute.inverse (RefRoute.sorted (RefRouted.peaks (probs V))) := by
    rw [RefRoute.final_v82, h59]
  have h89 : (final V main_v89 : FVec Ideal S1024x16 .f32) = RefRouted.keptRows (probs V) := by
    rw [RefRoute.final_v89, RefRoute.final_v73, RefRoute.final_v69, h66, h82]; rfl
  have h100 : (final V main_v100 : IVec S1024x16 32) = RefRouted.slotRows (probs V) := by
    rw [RefRoute.final_v100, RefRoute.final_v69, h66, h82]; rfl
  have h : (final V main_v107 : FVec Ideal S1024x16x96 .f32) = RefRouted.combined (probs V) := by
    rw [RefRoute.final_v107, RefRoute.final_v91, h47, h89, h100]; rfl
  rw [h]
  funext i
  obtain ⟨r, e, s, rfl⟩ : ∃ (r : Fin 1024) (e : Fin 16) (s : Fin 96), i = ix3 r e s := ⟨i 0, i 1, i 2, eq_ix3 i⟩
  exact RefRouted.combined_at (probs_real V) r e s

/-- The dispatch mask. -/
theorem v109 : (final V main_v109 : IVec S1024x16x96 1) = KernelHost.dispatch (KernelValues.combining (probs V)) := by
  rw [RefRoute.final_v109, v107]; rfl

end Cert.RefValues
-- ==== Proof.Equation.lean ====
/-
  The equation: from memories that agree on the arguments, the kernel's seven results and the reference's are equal.
-/
module

public import proofs.«01_k».proof.Proof.RefValues
public import proofs.«01_k».proof.Proof.Frames

@[expose] public section

set_option maxRecDepth 8192

noncomputable section

namespace Cert.Equation

open Idealize.ShloMosaic Idealize.ShloMosaic.StableHlo Idealize.SL.Sem
open Cert.KernelIdeal.Gen (W11 W11_main_arg0 W11_main_arg1 W11_main_arg2 mem_uc)

/-- Both programs end with the same dispatch mask, combining tensor, z-loss, balance loss, diversity loss, standard
    deviation and scaled logits, and leave their arguments as they were. -/
theorem algebraic : Cert.algebraic_KernelIdeal_ReferenceIdeal (hKernelIdeal := Cert.KernelIdeal.Gen.facts)
    (hReferenceIdeal := Cert.ReferenceIdeal.Gen.facts) := by
  intro m g m' g' _ hm
  have hl : ∀ c : Dev Cert.KernelIdeal.nD, RefValues.logits (launchContents m' c) = KernelHost.logits m c := fun c => by
    show KernelHost.raw (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
    rw [(hm c).1, (hm c).2.1]
    rfl
  have hp : ∀ c : Dev Cert.KernelIdeal.nD, RefValues.probs (launchContents m' c) = KernelHost.probs m c := fun c => by
    unfold RefValues.probs KernelHost.probs
    rw [hl]
  refine ⟨fun c => KernelHost.dispatch (KernelValues.combining (KernelHost.probs m c)),
    fun c => KernelValues.combining (KernelHost.probs m c),
    fun c _ => StatsKernel.zOf (Gate.clipped (KernelHost.logits m c)),
    fun c _ => StatsKernel.auxOf (KernelHost.probs m c),
    fun c _ => DivKernel.divOf (Gate.clipped (KernelHost.logits m c)),
    fun c _ => StatsKernel.spreadOf (KernelHost.logits m c),
    fun c => Gate.clipped (KernelHost.logits m c), ?_, ?_⟩
  · refine (θ_run (Cert.KernelIdeal.defs (F := Ideal)) _ _).2 (fun r h c => ?_) (KernelRun.run m g)
    have h := h.1 c
    exact ⟨(h _ (mem_uc _ (by decide))).trans (KernelValues.v28 m g c),
      (h _ (mem_uc _ (by decide))).trans (KernelValues.v26 m g c),
      (h _ (mem_uc _ (by decide))).trans (KernelValues.v29 m g c),
      (h _ (mem_uc _ (by decide))).trans (KernelValues.v30 m g c),
      (h _ (mem_uc _ (by decide))).trans (KernelValues.v31 m g c),
      (h _ (mem_uc _ (by decide))).trans (KernelValues.v32 m g c),
      (h _ (mem_uc _ (by decide))).trans (KernelHost.W11_v5 m g c),
      (h _ (mem_uc _ (by decide))).trans (W11_main_arg0 m g c),
      (h _ (mem_uc _ (by decide))).trans (W11_main_arg1 m g c),
      (h _ (mem_uc _ (by decide))).trans (W11_main_arg2 m g c)⟩
  · refine (θ_run (Cert.ReferenceIdeal.defs (F := Ideal)) _ _).2 (fun r h c => ?_) (RefRun.run m' g')
    have h := h c
    refine ⟨(h _).trans ((RefValues.v109 _).trans ?_), (h _).trans ((RefValues.v107 _).trans ?_),
      (h _).trans ((RefValues.v13 _).trans ?_), (h _).trans ((RefValues.v57 _).trans ?_),
      (h _).trans ((RefValues.v32 _).trans ?_), (h _).trans ((RefValues.v4 _).trans ?_),
      (h _).trans ((RefValues.v7 _).trans ?_), (h _).trans (Frames.arg0 _), (h _).trans (Frames.arg1 _),
      (h _).trans (Frames.arg2 _)⟩ <;> simp only [hl, hp] <;> rfl

end Cert.Equation
-- ==== Proof.lean ====
/-
  The certificate: the claims of `Cert.Claim`, one module each, put together.
-/
module

public import proofs.«01_k».proof.Proof.Frames
public import proofs.«01_k».proof.Proof.Equation
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Frames.kernel, Frames.kernelIdeal, Frames.reference, Frames.preserves, Equation.algebraic⟩

end Cert.Proof

end
